-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x8192 : Shape := ⟨3, ![1, 4096, 8192]⟩
abbrev S8192x32768 : Shape := ⟨2, ![8192, 32768]⟩
abbrev S16384x8192 : Shape := ⟨2, ![16384, 8192]⟩
abbrev S8192 : Shape := ⟨1, ![8192]⟩
abbrev S4096x8192 : Shape := ⟨2, ![4096, 8192]⟩
abbrev S4096x16384 : Shape := ⟨2, ![4096, 16384]⟩
abbrev S4096x128 : Shape := ⟨2, ![4096, 128]⟩
abbrev S512x8192 : Shape := ⟨2, ![512, 8192]⟩
abbrev S8192x512 : Shape := ⟨2, ![8192, 512]⟩
abbrev S512x512 : Shape := ⟨2, ![512, 512]⟩
abbrev S512x128 : Shape := ⟨2, ![512, 128]⟩
abbrev S4096x1 : Shape := ⟨2, ![4096, 1]⟩
abbrev S256x2048 : Shape := ⟨2, ![256, 2048]⟩
abbrev S256x128 : Shape := ⟨2, ![256, 128]⟩
abbrev S256x1 : Shape := ⟨2, ![256, 1]⟩
abbrev S256 : Shape := ⟨1, ![256]⟩
abbrev S256x256 : Shape := ⟨2, ![256, 256]⟩
abbrev S1x8192 : Shape := ⟨2, ![1, 8192]⟩
abbrev S1024x16384 : Shape := ⟨2, ![1024, 16384]⟩
abbrev S1024x1 : Shape := ⟨2, ![1024, 1]⟩
abbrev S16384x512 : Shape := ⟨2, ![16384, 512]⟩
abbrev S1x512 : Shape := ⟨2, ![1, 512]⟩
abbrev S1024x512 : Shape := ⟨2, ![1024, 512]⟩
abbrev S1x4096x16384 : Shape := ⟨3, ![1, 4096, 16384]⟩
abbrev S1x4096x1 : Shape := ⟨3, ![1, 4096, 1]⟩

abbrev nBuf : Space → Nat
  | .hbm => 16
  | .vmem => 27
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S16384x8192, .fp8e4m3⟩
  | .hbm, ⟨3, _⟩ => ⟨S8192, .f32⟩
  | .hbm, ⟨4, _⟩ => ⟨S4096x8192, .f32⟩
  | .hbm, ⟨5, _⟩ => ⟨S4096x8192, .bf16⟩
  | .hbm, ⟨6, _⟩ => ⟨S8192x32768, .bf16⟩
  | .hbm, ⟨7, _⟩ => ⟨S4096x16384, .f32⟩
  | .hbm, ⟨8, _⟩ => ⟨S4096x128, .f32⟩
  | .hbm, ⟨9, _⟩ => ⟨S4096x16384, .fp8e4m3⟩
  | .hbm, ⟨10, _⟩ => ⟨S4096x1, .f32⟩
  | .hbm, ⟨11, _⟩ => ⟨S1x8192, .f32⟩
  | .hbm, ⟨12, _⟩ => ⟨S4096x8192, .f32⟩
  | .hbm, ⟨13, _⟩ => ⟨S1x4096x8192, .f32⟩
  | .hbm, ⟨14, _⟩ => ⟨S1x4096x16384, .fp8e4m3⟩
  | .hbm, ⟨15, _⟩ => ⟨S1x4096x1, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S512x512, .f32⟩
  | .local _ .vmem, ⟨7, _⟩ => ⟨S512x512, .f32⟩
  | .local _ .vmem, ⟨8, _⟩ => ⟨S4096x128, .f32⟩
  | .local _ .vmem, ⟨9, _⟩ => ⟨S256x2048, .f32⟩
  | .local _ .vmem, ⟨10, _⟩ => ⟨S256x2048, .f32⟩
  | .local _ .vmem, ⟨11, _⟩ => ⟨S256x128, .f32⟩
  | .local _ .vmem, ⟨12, _⟩ => ⟨S256x128, .f32⟩
  | .local _ .vmem, ⟨13, _⟩ => ⟨S256x2048, .fp8e4m3⟩
  | .local _ .vmem, ⟨14, _⟩ => ⟨S256x2048, .fp8e4m3⟩
  | .local _ .vmem, ⟨15, _⟩ => ⟨S256x1, .f32⟩
  | .local _ .vmem, ⟨16, _⟩ => ⟨S256x1, .f32⟩
  | .local _ .vmem, ⟨17, _⟩ => ⟨S1024x16384, .fp8e4m3⟩
  | .local _ .vmem, ⟨18, _⟩ => ⟨S1024x16384, .fp8e4m3⟩
  | .local _ .vmem, ⟨19, _⟩ => ⟨S1024x1, .f32⟩
  | .local _ .vmem, ⟨20, _⟩ => ⟨S1024x1, .f32⟩
  | .local _ .vmem, ⟨21, _⟩ => ⟨S16384x512, .fp8e4m3⟩
  | .local _ .vmem, ⟨22, _⟩ => ⟨S16384x512, .fp8e4m3⟩
  | .local _ .vmem, ⟨23, _⟩ => ⟨S1x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨2, ![32, 8], ![false, false]⟩

def k0_off1 (i : grid0.Coords) : Fin 2 → Nat :=
  let arg1 : BitVec 32 := BitVec.ofNat 32 (i 1).val
  let c512_i32 : BitVec 32 := 512#32
  let v26 : BitVec 32 := Scalar.muli arg1 c512_i32
  let v28 : Index := Scalar.indexCast v26
  let c0_11 : Index := 0#32
  ![v28.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x2048 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x16384 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S16384x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S1x4096x8192 : Shape := ⟨3, ![1, 4096, 8192]⟩
abbrev S8192x32768 : Shape := ⟨2, ![8192, 32768]⟩
abbrev S16384x8192 : Shape := ⟨2, ![16384, 8192]⟩
abbrev S8192 : Shape := ⟨1, ![8192]⟩
abbrev S4096x8192 : Shape := ⟨2, ![4096, 8192]⟩
abbrev S4096x32768 : Shape := ⟨2, ![4096, 32768]⟩
abbrev S4096x16384 : Shape := ⟨2, ![4096, 16384]⟩
abbrev S_ : Shape := ⟨0, ![]⟩
abbrev S4096 : Shape := ⟨1, ![4096]⟩
abbrev S4096x1 : Shape := ⟨2, ![4096, 1]⟩
abbrev S1x254 : Shape := ⟨2, ![1, 254]⟩
abbrev S4096x254 : Shape := ⟨2, ![4096, 254]⟩
abbrev S1x8192 : Shape := ⟨2, ![1, 8192]⟩
abbrev S1x4096x16384 : Shape := ⟨3, ![1, 4096, 16384]⟩
abbrev S1x4096x1 : Shape := ⟨3, ![1, 4096, 1]⟩

abbrev nBuf : Space → Nat
  | .hbm => 62
  | .vmem => 6
  | .smem => 0
  | _ => 0

abbrev bufTy : (tb : Table) → Fin (tcTables nBuf tb) → BufTy
  | .hbm, ⟨0, _⟩ => ⟨S1x4096x8192, .f32⟩
  | .hbm, ⟨1, _⟩ => ⟨S8192x32768, .f32⟩
  | .hbm, ⟨2, _⟩ => ⟨S16384x8192, .fp8e4m3⟩
  | .hbm, ⟨3, _⟩ => ⟨S8192, .f32⟩
  | .hbm, ⟨4, _⟩ => ⟨S4096x8192, .f32⟩
  | .hbm, ⟨5, _⟩ => ⟨S4096x8192, .bf16⟩
  | .hbm, ⟨6, _⟩ => ⟨S8192x32768, .bf16⟩
  | .hbm, ⟨7, _⟩ => ⟨S4096x32768, .f32⟩
  | .hbm, ⟨8, _⟩ => ⟨S4096x16384, .f32⟩
  | .hbm, ⟨9, _⟩ => ⟨S4096x16384, .f32⟩
  | .hbm, ⟨10, _⟩ => ⟨S4096x16384, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S1x254, .f32⟩
  | .hbm, ⟨28, _⟩ => ⟨S_, .f32⟩
  | .hbm, ⟨29, _⟩ => ⟨S1x254, .f32⟩
  | .hbm, ⟨30, _⟩ => ⟨S1x254, .f32⟩
  | .hbm, ⟨31, _⟩ => ⟨S_, .f32⟩
  | .hbm, ⟨32, _⟩ => ⟨S1x254, .f32⟩
  | .hbm, ⟨33, _⟩ => ⟨S1x254, .f32⟩
  | .hbm, ⟨34, _⟩ => ⟨S4096x254, .f32⟩
  | .hbm, ⟨35, _⟩ => ⟨S4096x254, .f32⟩
  | .hbm, ⟨36, _⟩ => ⟨S4096x254, .i1⟩
  | .hbm, ⟨37, _⟩ => ⟨S_, .f32⟩
  | .hbm, ⟨38, _⟩ => ⟨S_, .f32⟩
  | .hbm, ⟨39, _⟩ => ⟨S4096x254, .f32⟩
  | .hbm, ⟨40, _⟩ => ⟨S4096x254, .f32⟩
  | .hbm, ⟨41, _⟩ => ⟨S4096x254, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .i1⟩
  | .hbm, ⟨48, _⟩ => ⟨S_, .f32⟩
  | .hbm, ⟨49, _⟩ => ⟨S4096x1, .f32⟩
  | .hbm, ⟨50, _⟩ => ⟨S4096x1, .i1⟩
  | .hbm, ⟨51, _⟩ => ⟨S4096x1, .i1⟩
  | .hbm, ⟨52, _⟩ => ⟨S_, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S1x8192, .f32⟩
  | .hbm, ⟨57, _⟩ => ⟨S4096x8192, .f32⟩
  | .hbm, ⟨58, _⟩ => ⟨S4096x16384, .fp8e4m3⟩
  | .hbm, ⟨59, _⟩ => ⟨S1x4096x8192, .f32⟩
  | .hbm, ⟨60, _⟩ => ⟨S1x4096x16384, .fp8e4m3⟩
  | .hbm, ⟨61, _⟩ => ⟨S1x4096x1, .f32⟩
  | .local _ .vmem, ⟨0, _⟩ => ⟨S4096x16384, .f32⟩
  | .local _ .vmem, ⟨1, _⟩ => ⟨S4096x1, .f32⟩
  | .local _ .vmem, ⟨2, _⟩ => ⟨S16384x8192, .fp8e4m3⟩
  | .local _ .vmem, ⟨3, _⟩ => ⟨S1x8192, .f32⟩
  | .local _ .vmem, ⟨4, _⟩ => ⟨S4096x8192, .f32⟩
  | .local _ .vmem, ⟨5, _⟩ => ⟨S4096x16384, .fp8e4m3⟩
  | _, _ => ⟨S1x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_v29 : Ref sig .tc := ⟨.hbm, 55, rfl⟩
abbrev main_v30 : Ref sig .tc := ⟨.hbm, 56, rfl⟩
abbrev main_v31_0 : Ref sig .tc := ⟨.hbm, 57, rfl⟩
abbrev main_v31_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x16384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Up.lean ====
/-
  The first region of the kernel, the up projection with SwiGLU, at a parameter `V`, the contents of the buffers when the region is
  entered. One output window is the whole array of running maxima, of which each step of the grid updates the rows of its row block.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index
public import Idealize.ShloMosaic.Lib.Pipeline.DatRel
public import Idealize.ShloMosaic.Lib.Pipeline.Cells

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first region of @main, `cc0_up_swiglu`, at the entry contents `V` -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, for any proof data whose array is `V`'s and whose body leaves the
block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x8192 := Rect.unit (s := S512x8192) ![0, 0] S512x8192.size inb_S512x8192_S512x8192_0_0
abbrev r0_1 : Rect S8192x512 := Rect.unit (s := S8192x512) ![0, 0] S8192x512.size inb_S8192x512_S8192x512_0_0
abbrev r0_3 : Rect S512x512 := Rect.unit (s := S512x512) ![0, 0] S512x512.size inb_S512x512_S512x512_0_0
/-- The rows of the running maximum that a step of the grid updates. -/
abbrev rA (i : grid0.Coords) : Rect S4096x128 := Rect.unit (s := S4096x128) (k0_off1 i) S512x128.size (k0_off1_inb i)

/-! ## What the body leaves in each output window's buffer -/

/-- The block of `h` after the body, from the input windows' blocks. -/
def out0_3 (x0 : Vec F S512x8192 .bf16) (x1 x2 : Vec F S8192x512 .bf16) : Vec F S512x512 .f32 :=
  View.canon [⟨r0_3, k0_pay1 (View.ld x0 r0_0) (View.ld x1 r0_1) (View.ld x2 r0_1)⟩]

theorem cover0_3 (p0 : Vec F S512x512 .f32) (y : S512x512.Idx) :
    ∃ pc ∈ ([⟨r0_3, p0⟩] : List (View.Piece (Elt F) S512x512 .f32)), y ∈ pc.1.set :=
  View.cover_of_tiled [⟨r0_3, p0⟩] S512x512.size (by rfl) y

/-- What the body stores into its rows of the running maximum, of which it read `v`. -/
def pay0_4 (i : grid0.Coords) (x0 : Vec F S512x8192 .bf16) (x1 x2 : Vec F S8192x512 .bf16) (v : Vec F S512x128 .f32) : Vec F S512x128 .f32 :=
  k0_pay2 i (View.ld x0 r0_0) (View.ld x1 r0_1) (View.ld x2 r0_1) v

/-- The running maximum after the body: its rows overwritten, the others as they were. -/
def out0_4 (i : grid0.Coords) (x0 : Vec F S512x8192 .bf16) (x1 x2 : Vec F S8192x512 .bf16) (x4 : Vec F S4096x128 .f32) : Vec F S4096x128 .f32 :=
  (rA i).overlay x4 (pay0_4 i x0 x1 x2 (View.ld x4 (rA i)))

/-- A buffer read after one store: what it held, the stored rectangle replaced by the payload. -/
theorem read_writes_one {κ : Kind} {sp : Space} {s : Shape} {e : EltTy} (v : View sig κ sp s e) (f : v.ty.Contents (Elt F)) (r : Rect s)
    (w : r.shape.Idx → Elt F e) : v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (Rect.overlay_emb r _ w x).symm
  · rw [Rect.overlay_of_not_mem _ _ _ hy, View.writes_cons, View.writes_nil]
    exact View.read_slice_write_of_not_mem _ _ _ _ (by rw [Rect.map_emb_univ]; exact hy)

/-! ## The body's triple -/

set_option maxHeartbeats 1000000 in
/-- The kernel body on whole staging memrefs, the inputs' at read contents `xW`, the block of `h` at anything and the running maximum at
    `x4`, runs to the continuation holding the inputs' as they were and the outputs' at `out0_3` and `out0_4`. -/
theorem sound_kernel0 (c : Dev nD) (E : Set ℕ) (i : grid0.Coords) (arg2 : Memref sig .tc .vmem S512x8192 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S512x512 .f32) (harg5 : arg5.IsWhole) (arg6 : Memref sig .tc .vmem S4096x128 .f32) (harg6 : arg6.IsWhole)
    (x0 : Vec F S512x8192 .bf16) (x1 : Vec F S8192x512 .bf16) (x2 : Vec F S8192x512 .bf16) (x4 : Vec F S4096x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 i x0 x1 x2 x4)) -∗ K ⟨⟩))
      ⊢ wp frame (wpE (defs₀ (F := F)) Variants.none c none) E (cc0_up_swiglu i arg2 harg2 arg3 harg3 arg4 harg4 arg5 harg5 arg6 harg6) K := by
  simp only [cc0_up_swiglu_eq_skeleton]; unfold cc0_up_swiglu_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact read_writes_one _ _ _ _

/-! ## The running maximum, point by point -/

/-- Point `n` of the grid. -/
def pt (n : ℕ) : Fin cfg0.N := ⟨n % 256, by rw [show cfg0.N = 256 from N_0]; exact Nat.mod_lt _ (by decide)⟩

theorem pt_val (t : Fin cfg0.N) : pt t.val = t :=
  Fin.ext (Nat.mod_eq_of_lt (Nat.lt_of_lt_of_eq t.isLt N_0))

/-- What step `t` stores into its rows of the running maximum, of which it read `v`. -/
def stepAt (c : Dev nD) (t : Fin cfg0.N) (v : Vec F S512x128 .f32) : Vec F S512x128 .f32 :=
  pay0_4 (grid0.coords t) (iblk0 V c 0 t) (iblk0 V c 1 t) (iblk0 V c 2 t) v

/-- The rows `ib` of the running maximum after the step of block column `j`: the first column's step starts from zero, whatever the
    buffer held. -/
def accB (c : Dev nD) (ib : ℕ) : ℕ → Vec F S512x128 .f32
  | 0 => stepAt V c (pt ib) (fun _ => Scalar.ofBits .f32 0x00000000#32)
  | j + 1 => stepAt V c (pt ((j + 1) * 8 + ib)) (accB c ib j)

/-- The array of running maxima at the end. -/
def amaxF (c : Dev nD) : Vec F S4096x128 .f32 := fun y =>
  accB V c ((y 0).val / 512) 31 (ix2 (n0 := 512) (n1 := 128) ⟨(y 0).val % 512, Nat.mod_lt _ (by decide)⟩ ⟨(y 1).val, (y 1).isLt⟩)

/-- After point `t`, the rows that each of the last eight steps wrote hold what it stored. -/
def GoodAt (c : Dev nD) (t : ℕ) (X : Vec F S4096x128 .f32) : Prop :=
  ∀ s : ℕ, s ≤ t → t < s + 8 → View.ld X (rA (grid0.coords (pt s))) = accB V c (s % 8) (s / 8)

theorem coords0_0 (t : Fin cfg0.N) : (grid0.coords t 0).val = t.val / 8 % 32 := Pipeline.Grid.coords_val (G := grid0) t 0 (by decide) rfl
theorem coords0_1 (t : Fin cfg0.N) : (grid0.coords t 1).val = t.val / 1 % 8 := Pipeline.Grid.coords_val (G := grid0) t 1 (by decide) rfl

/-- The rows that a step updates start at 512 times its row block. -/
theorem k0_off1_eq (i : grid0.Coords) : k0_off1 i = ![512 * (i 1).val, 0] := by
  have h : (i 1).val < 8 := (i 1).isLt
  unfold k0_off1
  generalize (i 1).val = n at h ⊢
  obtain rfl | rfl | rfl | rfl | rfl | rfl | rfl | rfl : n = 0 ∨ n = 1 ∨ n = 2 ∨ n = 3 ∨ n = 4 ∨ n = 5 ∨ n = 6 ∨ n = 7 := by omega
  all_goals rfl

/-- The first column's step does not depend on what the buffer held. -/
theorem pay0_4_first (i : grid0.Coords) (h : (i 0).val = 0) (x0 : Vec F S512x8192 .bf16) (x1 x2 : Vec F S8192x512 .bf16)
    (v v' : Vec F S512x128 .f32) : pay0_4 i x0 x1 x2 v = pay0_4 i x0 x1 x2 v' := by
  unfold pay0_4 k0_pay2
  simp only [h]
  rfl

/-- One step keeps `GoodAt`. -/
theorem good_step (c : Dev nD) (t : Fin cfg0.N) (X : Vec F S4096x128 .f32) (hX : t.val ≠ 0 → GoodAt V c (t.val - 1) X) :
    GoodAt V c t.val (out0_4 (grid0.coords t) (iblk0 V c 0 t) (iblk0 V c 1 t) (iblk0 V c 2 t) X) := by
  have hN : t.val < 256 := Nat.lt_of_lt_of_eq t.isLt N_0
  intro s hs hts
  by_cases hst : s = t.val
  · subst hst
    rw [pt_val]
    have e : View.ld (out0_4 (grid0.coords t) (iblk0 V c 0 t) (iblk0 V c 1 t) (iblk0 V c 2 t) X) (rA (grid0.coords t))
        = stepAt V c t (View.ld X (rA (grid0.coords t))) :=
      funext fun x => Rect.overlay_emb (rA (grid0.coords t)) X _ x
    rw [e]
    by_cases h8 : t.val < 8
    · rw [show t.val % 8 = t.val from Nat.mod_eq_of_lt h8, show t.val / 8 = 0 from Nat.div_eq_of_lt h8]
      show _ = stepAt V c (pt t.val) _
      rw [pt_val]
      exact pay0_4_first _ (by rw [coords0_0, Nat.div_eq_of_lt h8]) _ _ _ _ _
    · have h := hX (by omega) (t.val - 8) (by omega) (by omega)
      obtain ⟨j, hj⟩ : ∃ j, t.val / 8 = j + 1 := ⟨t.val / 8 - 1, by omega⟩
      rw [show (t.val - 8) % 8 = t.val % 8 by omega, show (t.val - 8) / 8 = j by omega] at h
      rw [hj]
      show _ = stepAt V c (pt ((j + 1) * 8 + t.val % 8)) (accB V c (t.val % 8) j)
      rw [show (j + 1) * 8 + t.val % 8 = t.val by omega, pt_val, ← h]
      have er : grid0.coords (pt (t.val - 8)) 1 = grid0.coords t 1 := Fin.ext (by
        rw [coords0_1, coords0_1]; show (t.val - 8) % 256 / 1 % 8 = _; omega)
      have : View.ld X (rA (grid0.coords (pt (t.val - 8)))) = View.ld X (rA (grid0.coords t)) := by
        funext x
        refine congrArg X (funext fun a => Fin.ext ?_)
        show k0_off1 (grid0.coords (pt (t.val - 8))) a + 1 * (x a).val = k0_off1 (grid0.coords t) a + 1 * (x a).val
        rw [k0_off1_eq, k0_off1_eq, er]
      rw [this]
  · have h := hX (by omega) s (by omega) (by omega)
    rw [← h]
    funext x
    refine Rect.overlay_of_not_mem _ _ _ ?_
    rw [Rect.mem_set_unit]
    intro hall
    have h0 := hall 0
    have e0 : ((rA (grid0.coords (pt s))).idx x 0).val = k0_off1 (grid0.coords (pt s)) 0 + 1 * (x 0).val := rfl
    have hx : (x 0).val < 512 := (x 0).isLt
    rw [e0, k0_off1_eq, k0_off1_eq, coords0_1, coords0_1] at h0
    change 512 * (t.val / 1 % 8) ≤ 512 * (s % 256 / 1 % 8) + 1 * (x 0).val ∧ 512 * (s % 256 / 1 % 8) + 1 * (x 0).val < 512 * (t.val / 1 % 8) + 512 at h0
    omega

/-- After the last point the array is `amaxF`. -/
theorem good_last (c : Dev nD) (X : Vec F S4096x128 .f32) (h : GoodAt V c 255 X) : X = amaxF V c := by
  funext y
  have hy : (y 0).val < 4096 := (y 0).isLt
  have e := h (248 + (y 0).val / 512) (by omega) (by omega)
  rw [show (248 + (y 0).val / 512) % 8 = (y 0).val / 512 by omega, show (248 + (y 0).val / 512) / 8 = 31 by omega] at e
  unfold amaxF
  rw [← e]
  refine congrArg X (funext fun a => Fin.ext ?_)
  show (y a).val = k0_off1 (grid0.coords (pt (248 + (y 0).val / 512))) a + 1 * _
  rw [k0_off1_eq, coords0_1]
  match a with
  | ⟨0, _⟩ =>
    show (y 0).val = 512 * ((248 + (y 0).val / 512) % 256 / 1 % 8) + 1 * ((y 0).val % 512)
    omega
  | ⟨1, _⟩ =>
    show (y 1).val = 0 + 1 * (y 1).val
    omega

/-! ## The pipeline's proof data -/

/-- The proof data of the region on core `c`: after the body at point `t` each input's buffer at its block, the block of `h` at `out0_3`
    of the input blocks; the running maximum at what it holds in the end, which is what its one write-back needs. Two windows share one
    array, so each holds its part of the share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => amaxF V c
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = amaxF V c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- The window whose contents are known by a relation alone: the running maximum. -/
def rel0 : Fin cfg0.W → Bool := fun w => w.val == 4

/-- What the body leaves in the running maximum's buffer at point `t`. -/
def Rl0 (c : Dev nD) (w : Fin cfg0.W) (t : Fin cfg0.N) (X : (cfg0.win w).block.Idx → Elt F (cfg0.win w).elt) : Prop :=
  match w, X with
  | ⟨4, _⟩, X => GoodAt V c t.val X
  | _, _ => True

/-- The region's data, the running maximum by the relation. -/
abbrev rdat0 (c : Dev nD) : Pipeline.RDat τ (Elt F) Unit ℕ (UR sig nD τ) ℕ cfg0 c := (dat0 V c).toRRel rel0 (Rl0 V c)

/-- What the body finds in the running maximum's buffer, past the first point, is what the point before left. -/
theorem finds0_4 (c : Dev nD) (t : Fin cfg0.N) (Y : Vec F S4096x128 .f32) (hY : (rdat0 V c).Finds 4 t Y) (ht : t.val ≠ 0) :
    GoodAt V c (t.val - 1) Y := by
  have hN : t.val < 256 := Nat.lt_of_lt_of_eq t.isLt N_0
  rw [(rdat0 V c).finds_of_pos (w := 4) rfl ht] at hY
  rcases hY with h | h
  · have := (flush0_4 _).mp h
    exact absurd this (by show ¬ (t.val - 1) % 256 = 255; omega)
  · exact (dat0 V c).toRRel_leaves (fgt := rel0) (w := 4) rfl h

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ Y, ⌜(rdat0 V c).Finds 4 t Y⌝ ∗ owns (c : Thread nD τ) (st0_4 t) fullShare Y))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ (∃ X, ⌜Rl0 V c 4 t X⌝ ∗ owns (c : Thread nD τ) (st0_4 t) fullShare X))

/-- The body at any point: the inputs' memrefs hold their blocks and the running maximum what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, H4⟩⟩
  iapply (sound_kernel0 c Set.univ (grid0.coords t) _ _ _ _ _ _ _ _ _ _ (iblk0 V c 0 t) (iblk0 V c 1 t) (iblk0 V c 2 t) Y _)
  isplitl [H0]; · iexact H0
  isplitl [H1]; · iexact H1
  isplitl [H2]; · iexact H2
  isplitl [H3]; · iexists _; iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexists _; isplitr; swap; · iexact H4
  ipureintro
  exact good_step V c t Y (finds0_4 V c t Y hY)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point, with the running maximum held to its relation. -/
theorem body_obligation0 (c : Dev nD) :
    Pipeline.BodyObligationRel (dat0 (F := F) V c) (defs₀ (F := F)) Variants.none () Set.univ rel0 (Rl0 V c) := fun t => by
  rw [bigSep_W0, bigSep_W0, defs₀_row0]
  exact triple_restated (sound_body0 V c t) rfl .rfl fun _ => .rfl

/-! ## The arrays after the region -/

/-- What window `w`'s array may hold under relational data is what exact data name, where at every write-back the two leave the same. -/
theorem rel_arrAt {cfg : Cfg sig Λ₀} {c : Dev nD} (rd : Pipeline.RDat τ (Elt F) Unit ℕ (UR sig nD τ) ℕ cfg c)
    (dat : Dat τ (Elt F) Unit ℕ (UR sig nD τ) ℕ cfg c) (w : Fin cfg.W) (hA : rd.A w = dat.A w)
    (h : ∀ u X, (cfg.win w).flush u = true → rd.Leaves w u X → (cfg.win w).cut (cfg.grid.coords u) X = dat.flushed w u) :
    ∀ (t : Nat) (G : Buf (Elt F) ((cfg.win w).arr.view.loc (c.tc : Thread nD τ))), rd.ArrAt w t G → G = dat.arrAt w t
  | 0, G, hG => by
    have : G = rd.A w := hG
    rw [this, hA]; rfl
  | t + 1, G, hG => by
    by_cases ht : t < cfg.N
    · have hR := rd.ArrAt_succ w ⟨t, ht⟩
      have hD := dat.arrAt_succ w ⟨t, ht⟩
      dsimp only at hR hD
      rw [hR] at hG; rw [hD]
      by_cases hfl : (cfg.win w).flush ⟨t, ht⟩ = true
      · rw [if_pos hfl] at hG ⊢
        obtain ⟨G₀, X, hG₀, hX, rfl⟩ := hG
        rw [rel_arrAt rd dat w hA h t G₀ hG₀, h _ X hfl hX]
      · rw [if_neg hfl] at hG ⊢; exact rel_arrAt rd dat w hA h t G hG
    · have hN : cfg.N ≤ t := Nat.not_lt.mp ht
      rw [rd.ArrAt_stable w (t + 1) (by omega), ← rd.ArrAt_stable w t hN] at hG
      rw [dat.arrAt_stable w (t + 1) (by omega), ← dat.arrAt_stable w t hN]
      exact rel_arrAt rd dat w hA h t G hG

/-- After the region every array holds what the exact data name. -/
theorem arrays_post0 (c : Dev nD) :
    (rdat0 V c).arraysAt cfg0.N ⊢ ((dat0 V c).arrays ((dat0 V c).arrAt · cfg0.N) : sProp 𝕄) := by
  have h : ∀ w G, (rdat0 V c).ArrAt w cfg0.N G → G = (dat0 V c).arrAt w cfg0.N := fun w G hG => by
    by_cases hw : w = 4
    · subst hw
      refine rel_arrAt (rdat0 V c) (dat0 V c) 4 rfl (fun u X hf hX => ?_) _ G hG
      have hN : u.val < 256 := Nat.lt_of_lt_of_eq u.isLt N_0
      have hu : u.val = 255 := by have := (flush0_4 u).mp hf; omega
      have hg : GoodAt V c u.val X := (dat0 V c).toRRel_leaves (fgt := rel0) (w := 4) rfl hX
      rw [hu] at hg
      rw [good_last V c X hg]
      rfl
    · have hf : rel0 w = false := (by decide : ∀ w : Fin 5, ¬ w = 4 → rel0 w = false) w hw
      exact (dat0 V c).toR_arrAt w _ G (((dat0 V c).toR.override_arrAt (by simp only [hf]) _ G).mp hG)
  exact Idealize.SL.BI.bigSep_mono fun w _ =>
    show iprop(∃ G, ⌜(rdat0 V c).ArrAt w cfg0.N G⌝ ∗ (cfg0.win w).arr.view.loc (c.tc : Thread nD τ) ↦[(cfg0.win w).arr.view.set]{(dat0 V c).share w} G)
        ⊢ ((cfg0.win w).arr.view.loc (c.tc : Thread nD τ) ↦[(cfg0.win w).arr.view.set]{(dat0 V c).share w} (dat0 V c).arrAt w cfg0.N : sProp 𝕄) from by
      iintro ⟨%G, %hG, H⟩; rw [h w G hG]; iexact H

end Cert.KernelIdeal.Whole

end
-- ==== Proof.QuantDown.lean ====
/-
  The two regions of the kernel that follow the up projection: the quantiser and the down projection, each at a parameter `V`, the
  contents of the buffers when the region is entered. Per region: what the body leaves in each output window's buffer, the body's
  triple, and the proof data with its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second region of @main, `cc1_quantise`, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x128 := Rect.unit (s := S256x128) ![0, 0] S256x128.size inb_S256x128_S256x128_0_0
abbrev r1_1 : Rect S256x1 := Rect.unit (s := S256x1) ![0, 0] S256x1.size inb_S256x1_S256x1_0_0
abbrev r1_2 : Rect S256x2048 := Rect.unit (s := S256x2048) ![0, 0] S256x2048.size inb_S256x2048_S256x2048_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S256x2048 .f32) (x1 : Vec F S256x128 .f32) : Vec F S256x2048 .fp8e4m3 :=
  View.canon [⟨r1_2, k1_pay1 (k1_pay2 (View.ld x1 r1_0)) (View.ld x0 r1_2)⟩]

/-- Its stores tile the buffer (checked by evaluation), so they cover it. -/
theorem cover1_2 (p0 : Vec F S256x2048 .fp8e4m3) (y : S256x2048.Idx) :
    ∃ pc ∈ ([⟨r1_2, p0⟩] : List (View.Piece (Elt F) S256x2048 .fp8e4m3)), y ∈ pc.1.set :=
  View.cover_of_tiled [⟨r1_2, p0⟩] S256x2048.size (by rfl) y

/-- Window 3's staging buffer after the body, from the input windows' blocks: its 1 store as pieces, LAST
    FIRST (Lib/Pipeline/FrameBody.lean `View.canon`; the payloads are the skeleton's). -/
def out1_3 (x0 : Vec F S256x2048 .f32) (x1 : Vec F S256x128 .f32) : Vec F S256x1 .f32 :=
  View.canon [⟨r1_1, k1_pay3 (View.ld x1 r1_0)⟩]

/-- Its stores tile the buffer (checked by evaluation), so they cover it. -/
theorem cover1_3 (p0 : Vec F S256x1 .f32) (y : S256x1.Idx) :
    ∃ pc ∈ ([⟨r1_1, p0⟩] : List (View.Piece (Elt F) S256x1 .f32)), y ∈ pc.1.set :=
  View.cover_of_tiled [⟨r1_1, p0⟩] S256x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S256x2048 .f32) (harg2 : arg2.IsWhole) (arg3 : Memref sig .tc .vmem S256x128 .f32) (harg3 : arg3.IsWhole) (arg4 : Memref sig .tc .vmem S256x2048 .fp8e4m3) (harg4 : arg4.IsWhole) (arg5 : Memref sig .tc .vmem S256x1 .f32) (harg5 : arg5.IsWhole)
    (x0 : Vec F S256x2048 .f32) (x1 : Vec F S256x128 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out1_2 x0 x1) ∗ owns (c : Thread nD τ) arg5 fullShare (out1_3 x0 x1)) -∗ K ⟨⟩))
      ⊢ wp frame (wpE (defs₀ (F := F)) Variants.none c none) E (cc1_quantise i arg2 harg2 arg3 harg3 arg4 harg4 arg5 harg5) K := by
  simp only [cc1_quantise_eq_skeleton]; unfold cc1_quantise_skel
  simp only [k1_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 0 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # The third region of @main, `cc2_down`, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x16384 := Rect.unit (s := S1024x16384) ![0, 0] S1024x16384.size inb_S1024x16384_S1024x16384_0_0
abbrev r2_1 : Rect S16384x512 := Rect.unit (s := S16384x512) ![0, 0] S16384x512.size inb_S16384x512_S16384x512_0_0
abbrev r2_2 : Rect S1024x1 := Rect.unit (s := S1024x1) ![0, 0] S1024x1.size inb_S1024x1_S1024x1_0_0
abbrev r2_3 : Rect S1x512 := Rect.unit (s := S1x512) ![0, 0] S1x512.size inb_S1x512_S1x512_0_0
abbrev r2_4 : Rect S1024x512 := Rect.unit (s := S1024x512) ![0, 0] S1024x512.size inb_S1024x512_S1024x512_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x16384 .fp8e4m3) (x1 : Vec F S1024x1 .f32) (x2 : Vec F S16384x512 .fp8e4m3) (x3 : Vec F S1x512 .f32) : Vec F S1024x512 .f32 :=
  View.canon [⟨r2_4, k2_pay1 (View.ld x0 r2_0) (View.ld x2 r2_1) (View.ld x1 r2_2) (View.ld x3 r2_3)⟩]

/-- Its stores tile the buffer (checked by evaluation), so they cover it. -/
theorem cover2_4 (p0 : Vec F S1024x512 .f32) (y : S1024x512.Idx) :
    ∃ pc ∈ ([⟨r2_4, p0⟩] : List (View.Piece (Elt F) S1024x512 .f32)), y ∈ pc.1.set :=
  View.cover_of_tiled [⟨r2_4, p0⟩] S1024x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x16384 .fp8e4m3) (harg2 : arg2.IsWhole) (arg3 : Memref sig .tc .vmem S1024x1 .f32) (harg3 : arg3.IsWhole) (arg4 : Memref sig .tc .vmem S16384x512 .fp8e4m3) (harg4 : arg4.IsWhole) (arg5 : Memref sig .tc .vmem S1x512 .f32) (harg5 : arg5.IsWhole) (arg6 : Memref sig .tc .vmem S1024x512 .f32) (harg6 : arg6.IsWhole)
    (x0 : Vec F S1024x16384 .fp8e4m3) (x1 : Vec F S1024x1 .f32) (x2 : Vec F S16384x512 .fp8e4m3) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_down i arg2 harg2 arg3 harg3 arg4 harg4 arg5 harg5 arg6 harg6) K := by
  simp only [cc2_down_eq_skeleton]; unfold cc2_down_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 1 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Whole.lean ====
/-
  The run of the whole kernel: its buffers at each boundary between the host operations and the three regions, and the theorem that every
  execution terminates without fault with every buffer at the last boundary's contents.
-/
module

public import proofs.«01_k».proof.Proof.Up
public import proofs.«01_k».proof.Proof.QuantDown
public import proofs.«01_k».proof.Proof.Gen.KernelIdeal.Regions
public import Idealize.ShloMosaic.Lib.Pipeline.FrameSuffix
public import Idealize.ShloMosaic.Lib.Pipeline.RegionsLoop
public import Idealize.ShloMosaic.Lib.Claim

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host operations before the first region. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the up projection. -/
def B2 (c : Dev nD) : Valuation τ sig (Elt F) :=
  Pipeline.withArrays spec0 c (B1 m ρ c) fun w => (dat0 (U1 m ρ) c).arrAt w cfg0.N
abbrev U2 : (c : Dev nD) → (b : Ref sig .tc) → Buf (Elt F) ((c : Thread nD τ).loc b) := fun c b => B2 m ρ c b
/-- After the quantiser. -/
def B3 (c : Dev nD) : Valuation τ sig (Elt F) :=
  Pipeline.withArrays spec1 c (B2 m ρ c) fun w => (dat1 (U2 m ρ) c).arrAt w cfg1.N
abbrev U3 : (c : Dev nD) → (b : Ref sig .tc) → Buf (Elt F) ((c : Thread nD τ).loc b) := fun c b => B3 m ρ c b
/-- After the host operation before the down projection. -/
abbrev B4 : Dev nD → Valuation τ sig (Elt F) := fun c => StableHlo.after hostOps2 (B3 m ρ c)
abbrev U4 : (c : Dev nD) → (b : Ref sig .tc) → Buf (Elt F) ((c : Thread nD τ).loc b) := fun c b => B4 m ρ c b
/-- After the down projection. -/
def B5 (c : Dev nD) : Valuation τ sig (Elt F) :=
  Pipeline.withArrays spec2 c (B4 m ρ c) fun w => (dat2 (U4 m ρ) c).arrAt w cfg2.N
abbrev U5 : (c : Dev nD) → (b : Ref sig .tc) → Buf (Elt F) ((c : Thread nD τ).loc b) := fun c b => B5 m ρ c b
/-- At the end. -/
abbrev B6 : Dev nD → Valuation τ sig (Elt F) := fun c => StableHlo.after hostOps3 (B5 m ρ c)

theorem B2_arr (c : Dev nD) (w : Fin cfg0.W) :
    B2 m ρ c (Proc.devRef .tc (Pipeline.arrRef spec0 w)) = (dat0 (U1 m ρ) c).arrAt w cfg0.N := by
  unfold B2; exact (dat0 (U1 m ρ) c).withArrays_arrAt sharedIn0 (B1 m ρ c) (A_eq0 (U1 m ρ) c) w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B3_arr (c : Dev nD) (w : Fin cfg1.W) :
    B3 m ρ c (Proc.devRef .tc (Pipeline.arrRef spec1 w)) = (dat1 (U2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
theorem B5_arr (c : Dev nD) (w : Fin cfg2.W) :
    B5 m ρ c (Proc.devRef .tc (Pipeline.arrRef spec2 w)) = (dat2 (U4 m ρ) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m ρ c (Proc.devRef .tc b) = B4 m ρ c (Proc.devRef .tc b) := by
  unfold B5; exact Pipeline.withArrays_of_ne spec2 c _ _ b hb

/-! A reference that is none of a region's output arrays keeps its entry contents across it. -/

theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (U1 m ρ) c).arrAt_in w (h w rfl) _).trans (A_eq0 (U1 m ρ) c w))
  · exact B2_of_ne m ρ c r fun w e => hw ⟨w, e⟩
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    exact (B3_arr m ρ c w).trans (((dat1 (U2 m ρ) c).arrAt_in w (h w rfl) _).trans (A_eq1 (U2 m ρ) c w))
  · exact B3_of_ne m ρ c r fun w e => hw ⟨w, e⟩
theorem B5_of (c : Dev nD) (r : Ref sig .tc) (h : ∀ w : Fin cfg2.W, Pipeline.arrRef spec2 w = r → (cfg2.win w).isOut = false) :
    B5 m ρ c (Proc.devRef .tc r) = B4 m ρ c (Proc.devRef .tc r) := by
  by_cases hw : ∃ w : Fin cfg2.W, Pipeline.arrRef spec2 w = r
  · obtain ⟨w, rfl⟩ := hw
    exact (B5_arr m ρ c w).trans (((dat2 (U4 m ρ) c).arrAt_in w (h w rfl) _).trans (A_eq2 (U4 m ρ) c w))
  · exact B5_of_ne m ρ c r fun w e => hw ⟨w, e⟩
theorem hF0 (c : Dev nD) (w : Fin cfg0.W) : (dat0 (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
theorem hF1 (c : Dev nD) (w : Fin cfg1.W) : (dat1 (U2 m ρ) c).arrAt w cfg1.N = U3 m ρ c (Pipeline.arrRef spec1 w) :=
  (B3_arr m ρ c w).symm
theorem hrest1 (c : Dev nD) : ∀ b, b ∉ Finset.univ.image (Pipeline.arrRef spec1) → U3 m ρ c b = U2 m ρ c b :=
  fun b hb => B3_of_ne m ρ c b fun w e => hb (Finset.mem_image.mpr ⟨w, Finset.mem_univ _, e⟩)
theorem hF2 (c : Dev nD) (w : Fin cfg2.W) : (dat2 (U4 m ρ) c).arrAt w cfg2.N = U5 m ρ c (Pipeline.arrRef spec2 w) :=
  (B5_arr m ρ c w).symm
theorem hrest2 (c : Dev nD) : ∀ b, b ∉ Finset.univ.image (Pipeline.arrRef spec2) → U5 m ρ c b = U4 m ρ c b :=
  fun b hb => B5_of_ne m ρ c b fun w e => hb (Finset.mem_image.mpr ⟨w, Finset.mem_univ _, e⟩)

/-! ## The arguments end as launched -/

abbrev argRefs : List (Ref sig .tc) := [main_arg0, main_arg1, main_arg2, main_arg3]
theorem hostOps0_args : ∀ a ∈ argRefs, a ∉ hostOps0_W := ListAll.forall_mem_of_all_decide (by decide +kernel)
theorem hostOps2_args : ∀ a ∈ argRefs, a ∉ hostOps2_W := ListAll.forall_mem_of_all_decide (by decide +kernel)
theorem hostOps3_args : ∀ a ∈ argRefs, a ∉ hostOps3_W := ListAll.forall_mem_of_all_decide (by decide +kernel)
theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B4_of (c : Dev nD) (r : Ref sig .tc) (h : r ∉ hostOps2_W) : B4 m ρ c (Proc.devRef .tc r) = B3 m ρ c (Proc.devRef .tc r) :=
  StableHlo.after_of_writes_sub hostOps2 _ hostOps2_writes h
theorem B6_of (c : Dev nD) (r : Ref sig .tc) (h : r ∉ hostOps3_W) : B6 m ρ c (Proc.devRef .tc r) = B5 m ρ c (Proc.devRef .tc r) :=
  StableHlo.after_of_writes_sub hostOps3 _ hostOps3_writes h
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem B3_args (c : Dev nD) : ∀ a ∈ argRefs, B3 m ρ c (Proc.devRef .tc a) = m ((c : Thread nD τ).loc a) :=
  fun a ha => (B3_of m ρ c a (argsIn1 a ha)).trans <| (B2_of m ρ c a (argsIn0 a ha)).trans (B1_of m ρ c a (hostOps0_args a ha))
theorem B6_args (c : Dev nD) : ∀ a ∈ argRefs, B6 m ρ c (Proc.devRef .tc a) = m ((c : Thread nD τ).loc a) :=
  fun a ha => (B6_of m ρ c a (hostOps3_args a ha)).trans <| (B5_of m ρ c a (argsIn2 a ha)).trans <|
    (B4_of m ρ c a (hostOps2_args a ha)).trans (B3_args m ρ c a ha)

/-! ## The proof data family and the thread state -/

/-- Every region's exact proof data, each at its entry contents. -/
def pdats : (p : Fin 3) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
  | ⟨2, _⟩ => fun c => dat2 (U4 m ρ) c
/-- The same, the running maximum of the first region by its relation. -/
def rdats : (p : Fin 3) → (c : Dev nD) → Pipeline.RDat τ (Elt F) Unit ℕ (UR sig nD τ) ℕ (Pipeline.pin (pcfgs (F := F)) adm p) c
  | ⟨0, _⟩ => fun c => rdat0 (U1 m ρ) c
  | ⟨1, _⟩ => fun c => (dat1 (U2 m ρ) c).toR
  | ⟨2, _⟩ => fun c => (dat2 (U4 m ρ) c).toR
abbrev 𝒱₀ : Variants := Variants.none
abbrev L : GSem nD τ sig → Finset Unit := fun _ => ∅
abbrev lv : GSem nD τ sig → Unit → ℕ := fun _ _ => 0
/-- What rides beside the buffers: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B6 m ρ c) ∗ ∃ r, prngReg c r)

/-! ## The regions as segments -/

set_option backward.isDefEq.respectTransparency.types false in
/-- Region 0 over the thread state: entered from every unscoped buffer at `B1`, left at `B2`. -/
def reg0 : Pipeline.RDat.RegionSeg (pcfgs (F := F)) adm (rdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) c).toRRel
  hwaits := Pipeline.RDat.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs_shared (p := 0) (pcfgs (F := F)) adm (pdats m ρ) winFacts₀0 sharedIn0 arr_whole0 c
      (fun _ _ => rfl) (U1 m ρ c) (A_eq0 (U1 m ρ) c)
    rw [Pipeline.unscopedBufs_held] at hsplit
    have harr : (pdats m ρ 0 c).arrays ((pdats m ρ 0 c).arrAt · 0) ⊢ (rdats m ρ 0 c).arrays (rdats m ρ 0 c).A :=
      Entails.of_eq rfl
    iintro ⟨⟨Hub, Hp, HO⟩, -, -⟩
    ihave H := hsplit $$ Hub
    icases H with ⟨Ha, Hrest⟩
    ihave Ha := harr $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      winFacts₀0 sharedIn0 arr_whole0 c (pdats m ρ) (fun _ _ => rfl)
      (U1 m ρ c) (U2 m ρ c) ((pdats m ρ 0 c).arrAt · cfg0.N) (hF0 m ρ c) (hrest0 m ρ c)
    rw [Pipeline.unscopedBufs_held] at hjoin
    have hpost : (rdats m ρ 0 c).arraysAt (Pipeline.pin (pcfgs (F := F)) adm 0).N
        ⊢ (pdats m ρ 0 c).arrays ((pdats m ρ 0 c).arrAt · cfg0.N) := arrays_post0 (U1 m ρ) c
    iintro ⟨Ha, HO, HY, Hrest⟩
    ihave Ha := hpost $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- Region 1 over the thread state: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) (A_eq1 (U2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B4`, left at `B5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U4 m ρ c) (A_eq2 (U4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as one of relational data. -/
def rreg1 : Pipeline.RDat.RegionSeg (pcfgs (F := F)) adm (rdats m ρ) () defs₀ 𝒱₀ L lv 1 where
  win := (reg1 m ρ).win
  block_pos := (reg1 m ρ).block_pos
  stage_whole := (reg1 m ρ).stage_whole
  K := (reg1 m ρ).K
  fK := (reg1 m ρ).fK
  osem := (reg1 m ρ).osem
  ho := (reg1 m ρ).ho
  hbody c := ((reg1 m ρ).hbody c).toR
  hwaits := Pipeline.RDat.hwaits_of_owed_zero _ _ _ _ L lv 1 fun _ _ => rfl
  pre := (reg1 m ρ).pre
  post := (reg1 m ρ).post
  X := (reg1 m ρ).X
  Y := (reg1 m ρ).Y
  Z := (reg1 m ρ).Z
  hentry := (reg1 m ρ).hentry
  hin := (reg1 m ρ).hin
  hout := (reg1 m ρ).hout
  hexit c := (sep_mono (Entails.of_eq ((pdats m ρ 1 c).toR_arraysAt_eq (Pipeline.pin (pcfgs (F := F)) adm 1).N)) .rfl).trans ((reg1 m ρ).hexit c)

set_option backward.isDefEq.respectTransparency.types false in
/-- Region 2 as one of relational data. -/
def rreg2 : Pipeline.RDat.RegionSeg (pcfgs (F := F)) adm (rdats m ρ) () defs₀ 𝒱₀ L lv 2 where
  win := (reg2 m ρ).win
  block_pos := (reg2 m ρ).block_pos
  stage_whole := (reg2 m ρ).stage_whole
  K := (reg2 m ρ).K
  fK := (reg2 m ρ).fK
  osem := (reg2 m ρ).osem
  ho := (reg2 m ρ).ho
  hbody c := ((reg2 m ρ).hbody c).toR
  hwaits := Pipeline.RDat.hwaits_of_owed_zero _ _ _ _ L lv 2 fun _ _ => rfl
  pre := (reg2 m ρ).pre
  post := (reg2 m ρ).post
  X := (reg2 m ρ).X
  Y := (reg2 m ρ).Y
  Z := (reg2 m ρ).Z
  hentry := (reg2 m ρ).hentry
  hin := (reg2 m ρ).hin
  hout := (reg2 m ρ).hout
  hexit c := (sep_mono (Entails.of_eq ((pdats m ρ 2 c).toR_arraysAt_eq (Pipeline.pin (pcfgs (F := F)) adm 2).N)) .rfl).trans ((reg2 m ρ).hexit c)

/-! ## @main as segments, and the launch -/

/-- The host operations and the regions in order. -/
abbrev rsegs : List (Pipeline.RDat.Seg (pcfgs (F := F)) adm (rdats m ρ) () defs₀ 𝒱₀ L lv) :=
  [ .host (hseg hostOps0 hostOps0_sub hostOps0_fresh (B0 m ρ)),
    .region (reg0 m ρ),
    .region (rreg1 m ρ),
    .host (hseg hostOps2 hostOps2_sub hostOps2_fresh (B3 m ρ)),
    .region (rreg2 m ρ),
    .host (hseg hostOps3 hostOps3_sub hostOps3_fresh (B5 m ρ)) ]
theorem main_run (c : Dev nD) : main (F := F) c = Pipeline.RDat.Seg.run (rsegs m ρ) := (main_chain c).trans (by chain_rfl)

set_option backward.isDefEq.respectTransparency.types false in
/-- THE RUN: every weakly fair execution of @main from memory `m` with zero counters terminates without fault, and every final state holds
    every buffer at `B6` and has every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = B6 m ρ c b) ∧ r.2.sem = fun _ => 0) :=
  Pipeline.RDat.θ_run_regions_kit_sems (pcfgs (F := F)) adm (rdats m ρ) () cellOf_inj emb₁ defs₀ 𝒱₀ L lv m ρ main (rsegs m ρ)
    (fun c Q => by rw [main_run m ρ c])
    (by simp only [rsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (B6 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m ρ c b)
    (hfin := fun c s' => by
      iintro ⟨⟨Hh, -⟩, HSI⟩
      unfold StableHlo.held
      imodintro
      iapply (pointsTo_read_all (Pipeline.ucRefs τ sig) (fun b => (((c : Thread nD τ)).1, b)) (B6 m ρ c) s')
      isplitl [Hh] <;> iassumption)
    (hQ := fun s h hz => ⟨h, funext fun g => hz g (.inr (regions_no_unscoped g.2))⟩)

/-- THE FRAME: every execution terminates without fault, the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (B6_args m ρ c main_arg0 (by decide)),
       (h.1 c _ (mem_uc main_arg1 (by decide))).trans (B6_args m ρ c main_arg1 (by decide)),
       (h.1 c _ (mem_uc main_arg2 (by decide))).trans (B6_args m ρ c main_arg2 (by decide)),
       (h.1 c _ (mem_uc main_arg3 (by decide))).trans (B6_args m ρ c main_arg3 (by decide))⟩, h.2⟩) (run_all m ρ)

end Cert.KernelIdeal.Whole

end
-- ==== Proof.KernelFrame.lean ====
module

public import proofs.«01_k».proof.Proof.Whole
public import proofs.«01_k».proof.Proof.Gen.Kernel.Regions

/-! The kernel as printed and its ideal form are the same program text, since no rewrite was applied: their definitions are equal, and
    the frame of the one is the frame of the other. -/

@[expose] public section

noncomputable section

namespace Cert.Kernel.Whole

open Idealize.ShloMosaic Idealize.SL.Sem Idealize.ShloMosaic.TcCoe

variable {F : FTy → Type} [FloatOps F]

set_option maxHeartbeats 8000000 in
/-- The bodies of the two programs are equal, label by label. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => rfl
  | 1 => rfl
  | 2 => rfl

set_option maxHeartbeats 4000000 in
/-- The definitions of the two programs are equal. -/
theorem defs_eq : Cert.Kernel.defs (F := F) = Cert.KernelIdeal.defs (F := F) := by
  unfold Cert.Kernel.defs
  rw [bodies_eq]
  rfl

open Cert.Kernel Cert.Kernel.Gen in
/-- Every weakly fair execution of the kernel terminates without fault, with the arguments unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Whole.frame (F := F) m ρ

end Cert.Kernel.Whole

end
-- ==== Proof.QuantMath.lean ====
/-
  The arithmetic of the power-of-two quantiser over the extended reals.

  The kernel counts how many of the 256 words `k << 23`, read as floats, a nonnegative ratio reaches; the exponent of the scale is that
  count less 127, and the scale and its inverse are built from the exponent's bits. The reference takes the least normal power of two above
  the ratio, and divides. Here the two are shown to be the same numbers.
-/
module

public import Idealize.ShloMosaic.Lib.Pointwise
public import Idealize.ShloMosaic.Lib.IdealHost
public import Idealize.ShloMosaic.PureOps.Ideal

@[expose] public section

set_option maxRecDepth 16384

noncomputable section

namespace Cert.Quant

open Idealize.ShloMosaic

/-- The word `k << 23` read as a float. -/
def pw (k : ℕ) : EReal := Ideal.ofBits .f32 (IntOp.shli ArithUnit.vector (BitVec.ofNat 32 k) 23#32)

theorem fields : ∀ k : Fin 256,
    (IntOp.shli ArithUnit.vector (BitVec.ofNat 32 k) 23#32).extractLsb' 31 1 = 0#1
    ∧ ((IntOp.shli ArithUnit.vector (BitVec.ofNat 32 k) 23#32).extractLsb' 23 8).toNat = k
    ∧ ((IntOp.shli ArithUnit.vector (BitVec.ofNat 32 k) 23#32).extractLsb' 0 23).toNat = 0 := by decide +kernel

theorem pw_zero : pw 0 = 0 := by
  obtain ⟨h1, h2, h3⟩ := fields 0
  simp only [Fin.val_zero] at h1 h2 h3
  simp only [pw, Ideal.ofBits, Ideal.ieee, h1, h2, h3]
  simp

theorem pw_mid {k : ℕ} (h : 1 ≤ k) (h' : k ≤ 254) : pw k = (((2 : ℝ) ^ ((k : ℤ) - 127) : ℝ) : EReal) := by
  obtain ⟨h1, h2, h3⟩ := fields ⟨k, by omega⟩
  simp only [pw, Ideal.ofBits, Ideal.ieee, h1, h2, h3]
  rw [if_neg (by norm_num; omega), if_neg (by omega)]
  refine congrArg (fun x : ℝ => (x : EReal)) ?_
  have h0 : (2 : ℝ) ≠ 0 := by norm_num
  have e : ((k : ℤ) - 127) = 23 + ((k : ℤ) - (2 ^ (8 - 1) - 1) - (23 : ℕ)) := by norm_num
  rw [e, zpow_add₀ h0, if_neg (by decide), one_mul, Nat.add_zero, Nat.cast_pow, Nat.cast_ofNat]
  refine congrArg (· * _) ?_
  norm_num

theorem pw_top : pw 255 = ⊤ := by
  obtain ⟨h1, h2, h3⟩ := fields 255
  simp only [Fin.isValue, Fin.reduceFinMk, show ((255 : Fin 256) : ℕ) = 255 from rfl] at h1 h2 h3
  simp only [pw, Ideal.ofBits, Ideal.ieee, h1, h2, h3]
  simp

theorem pw_lt {j k : ℕ} (h : j < k) (hk : k ≤ 255) : pw j < pw k := by
  rcases Nat.eq_zero_or_pos j with rfl | hj
  · rw [pw_zero]
    rcases Nat.lt_or_ge k 255 with h2 | h2
    · rw [pw_mid (by omega) (by omega)]
      exact EReal.coe_pos.mpr (by positivity)
    · rw [show k = 255 by omega, pw_top]; exact EReal.coe_lt_top 0
  · rw [pw_mid hj (by omega)]
    rcases Nat.lt_or_ge k 255 with h2 | h2
    · rw [pw_mid (by omega) (by omega), EReal.coe_lt_coe_iff]
      exact zpow_lt_zpow_right₀ (by norm_num) (by omega)
    · rw [show k = 255 by omega, pw_top]; exact EReal.coe_lt_top _

theorem pw_le {j k : ℕ} (h : j ≤ k) (hk : k ≤ 255) : pw j ≤ pw k := by
  rcases Nat.lt_or_ge j k with h1 | h1
  · exact (pw_lt h1 hk).le
  · rw [show j = k by omega]

theorem pw_127 : pw 127 = 1 := by
  rw [pw_mid (by norm_num) (by norm_num)]; norm_num

/-- A nonnegative number reaches the first `n` of the words' values and no other. -/
theorem exists_count (r : EReal) (h : 0 ≤ r) : ∃ n, 1 ≤ n ∧ n ≤ 256 ∧ ∀ k, k < 256 → (pw k ≤ r ↔ k < n) := by
  classical
  have hex : ∃ n, 256 ≤ n ∨ ¬ pw n ≤ r := ⟨256, Or.inl le_rfl⟩
  refine ⟨Nat.find hex, ?_, Nat.find_min' hex (Or.inl le_rfl), fun k hk => ⟨fun hle => ?_, fun hlt => ?_⟩⟩
  · rw [Nat.one_le_iff_ne_zero]
    intro h0
    have := Nat.find_spec hex
    rw [h0, pw_zero] at this
    rcases this with h1 | h1
    · omega
    · exact h1 h
  · by_contra hge
    rcases Nat.find_spec hex with h1 | h1
    · omega
    · exact h1 ((pw_le (not_lt.mp hge) (by omega)).trans hle)
  · have := Nat.find_min hex hlt
    push Not at this
    exact this.2

/-- The kernel's count of the values reached, as a word. -/
def count (r : EReal) : BitVec 32 :=
  Finset.fold IntOp.addi (0#32) (fun x : Fin 256 =>
    if Ideal.ofBits FTy.f32 (IntOp.shli ArithUnit.vector (BitVec.ofNat 32 ↑x) 23#32) ≤ r then 1#32 else 0#32) Finset.univ

theorem fold_count : ∀ n : Fin 257,
    Finset.fold IntOp.addi (0#32) (fun x : Fin 256 => if x.val < n.val then 1#32 else 0#32) Finset.univ = BitVec.ofNat 32 n := by
  decide +kernel

theorem count_eq {r : EReal} {n : ℕ} (hn : n ≤ 256) (h : ∀ k, k < 256 → (pw k ≤ r ↔ k < n)) : count r = BitVec.ofNat 32 n := by
  rw [← fold_count ⟨n, by omega⟩]
  unfold count
  congr 1
  funext x
  exact if_congr (h x x.isLt) rfl rfl

/-- The kernel's exponent of a row whose largest magnitude is `a`. -/
def kexp (a : EReal) : BitVec 32 :=
  if a = 0 then 0#32 else
    Scalar.select (IntOp.ori (IntOp.cmpi .sle (count (a * Ideal.ofBits FTy.f32 991054117#32)) 1#32)
      (IntOp.cmpi .eq (count (a * Ideal.ofBits FTy.f32 991054117#32)) 256#32)) (0#32)
      (IntOp.subi (count (a * Ideal.ofBits FTy.f32 991054117#32)) 127#32)

/-- The float whose exponent field is the word `e` plus 127, clipped. -/
def kpow (e : BitVec 32) : EReal :=
  Ideal.ofBits FTy.f32 (IntOp.shli ArithUnit.vector (IntOp.addi (IntOp.minsi (128#32) (IntOp.maxsi (4294967169#32) e)) 127#32) 23#32)

/-- The index of the scale's word, by the count. -/
def sidx (n : ℕ) : ℕ := if n ≤ 1 ∨ n = 256 then 127 else n
/-- The index of the inverse's word. -/
def iidx (n : ℕ) : ℕ := if n ≤ 1 ∨ n = 256 then 127 else 254 - n

theorem words : ∀ n : Fin 257,
    let e : BitVec 32 := Scalar.select (IntOp.ori (IntOp.cmpi .sle (BitVec.ofNat 32 n) 1#32) (IntOp.cmpi .eq (BitVec.ofNat 32 n) 256#32)) (0#32)
      (IntOp.subi (BitVec.ofNat 32 n) 127#32)
    IntOp.addi (IntOp.minsi (128#32) (IntOp.maxsi (4294967169#32) e)) 127#32 = BitVec.ofNat 32 (sidx n)
    ∧ IntOp.addi (IntOp.minsi (128#32) (IntOp.maxsi (4294967169#32) (IntOp.subi (0#32) e))) 127#32 = BitVec.ofNat 32 (iidx n)
    ∧ (n.val = 1 → e = 0#32) := by
  unfold sidx iidx Scalar.select
  decide +kernel

theorem kexp_eq {a : EReal} {n : ℕ} (hn : n ≤ 256) (h1 : 1 ≤ n)
    (h : ∀ k, k < 256 → (pw k ≤ a * Ideal.ofBits FTy.f32 991054117#32 ↔ k < n)) :
    kpow (kexp a) = pw (sidx n) ∧ kpow (IntOp.subi (0#32) (kexp a)) = pw (iidx n) := by
  obtain ⟨w1, w2, w3⟩ := words ⟨n, by omega⟩
  have e : kexp a = Scalar.select (IntOp.ori (IntOp.cmpi .sle (BitVec.ofNat 32 n) 1#32) (IntOp.cmpi .eq (BitVec.ofNat 32 n) 256#32)) (0#32)
      (IntOp.subi (BitVec.ofNat 32 n) 127#32) := by
    unfold kexp
    rw [count_eq hn h]
    split_ifs with ha
    · refine (w3 ?_).symm
      have h2 : ¬ (1 < n) := by
        rw [← h 1 (by norm_num), ha, zero_mul, not_le, ← pw_zero]
        exact pw_lt (by norm_num) (by norm_num)
      show n = 1
      omega
    · rfl
  rw [e]
  unfold kpow pw
  exact ⟨by rw [w1], by rw [w2]⟩

theorem sidx_pos (n : ℕ) : 1 ≤ sidx n := by unfold sidx; split_ifs <;> omega

/-- The reference's inverse of a scale: flushed to zero below the normal numbers. -/
def refInv (s : EReal) : EReal :=
  if Ideal.div 1 s < Ideal.ofBits FTy.f32 8388608#32 then 0 else Ideal.div 1 s

theorem tiny_eq : Ideal.ofBits FTy.f32 8388608#32 = pw 1 := by
  unfold pw
  rw [show IntOp.shli ArithUnit.vector (BitVec.ofNat 32 1) 23#32 = 8388608#32 by decide +kernel]

theorem inf_eq : Ideal.ofBits FTy.f32 2139095040#32 = ⊤ := by
  rw [← pw_top]; unfold pw
  rw [show IntOp.shli ArithUnit.vector (BitVec.ofNat 32 255) 23#32 = 2139095040#32 by decide +kernel]

theorem one_eq : Ideal.ofBits FTy.f32 1065353216#32 = 1 := Ideal.ofBits_one_f32

theorem div_one_pw {k : ℕ} (h : 1 ≤ k) (h' : k ≤ 254) : Ideal.div 1 (pw k) = (((2 : ℝ) ^ (127 - (k : ℤ)) : ℝ) : EReal) := by
  have hp : (0 : ℝ) < (2 : ℝ) ^ ((k : ℤ) - 127) := by positivity
  unfold Ideal.div
  rw [pw_mid h h', if_neg (by rw [← EReal.coe_zero, EReal.coe_eq_coe_iff]; exact hp.ne'), one_mul, ← EReal.coe_inv, ← zpow_neg]
  congr 2; ring

theorem refInv_eq (n : ℕ) (hn : n ≤ 256) : refInv (pw (sidx n)) = pw (iidx n) := by
  unfold refInv
  rw [tiny_eq]
  have key : ∀ k, 1 ≤ k → k ≤ 253 → (if Ideal.div 1 (pw k) < pw 1 then 0 else Ideal.div 1 (pw k)) = pw (254 - k) := by
    intro k h1 h2
    have e : Ideal.div 1 (pw k) = pw (254 - k) := by
      rw [div_one_pw h1 (by omega), pw_mid (by omega) (by omega)]
      congr 2; push_cast [show k ≤ 254 by omega]; ring
    rw [e, if_neg (not_lt.mpr (pw_le (by omega) (by omega)))]
  unfold sidx iidx
  by_cases h : n ≤ 1 ∨ n = 256
  · rw [if_pos h, if_pos h]; exact key 127 (by norm_num) (by norm_num)
  · rw [if_neg h, if_neg h]
    rcases Nat.lt_or_ge n 254 with h2 | h2
    · exact key n (by omega) (by omega)
    · rcases Nat.eq_or_lt_of_le h2 with rfl | h3
      · rw [if_pos, pw_zero]
        rw [div_one_pw (by norm_num) (by norm_num), pw_mid (by norm_num) (by norm_num), EReal.coe_lt_coe_iff]
        exact zpow_lt_zpow_right₀ (by norm_num) (by norm_num)
      · rw [show n = 255 by omega, pw_top, if_pos]
        · exact pw_zero.symm
        · unfold Ideal.div
          rw [if_neg EReal.top_ne_zero, EReal.inv_top, mul_zero, ← pw_zero]
          exact pw_lt (by norm_num) (by norm_num)

/-- The reference's power of two with exponent `i - 126`. -/
def refPow (i : ℕ) : EReal :=
  Ideal.pow (Ideal.ofBits FTy.f32 1073741824#32) (((((BitVec.ofNat 32 i).toInt : ℤ) : ℝ) : EReal) - Ideal.ofBits FTy.f32 1123811328#32)

theorem two_eq : Ideal.ofBits FTy.f32 1073741824#32 = ((2 : ℝ) : EReal) := by
  simp [Ideal.ofBits, Ideal.ieee, -EReal.coe_mul]; norm_num

theorem c126_eq : Ideal.ofBits FTy.f32 1123811328#32 = ((126 : ℝ) : EReal) := by
  simp [Ideal.ofBits, Ideal.ieee, -EReal.coe_mul]; norm_num

theorem refPow_eq {i : ℕ} (h : i < 254) : refPow i = pw (i + 1) := by
  have e : (BitVec.ofNat 32 i).toInt = (i : ℤ) := by
    rw [BitVec.toInt_eq_toNat_of_lt] <;> rw [BitVec.toNat_ofNat, Nat.mod_eq_of_lt] <;> omega
  unfold refPow
  rw [e, two_eq, c126_eq, pw_mid (by omega) (by omega), ← EReal.coe_sub]
  show ((Real.rpow 2 _ : ℝ) : EReal) = _
  congr 1
  show (2 : ℝ) ^ (_ : ℝ) = _
  rw [← Real.rpow_intCast]
  congr 1
  push_cast; ring

/-- The reference's scale of a ratio. -/
def refScale (r : EReal) : EReal :=
  if r < Ideal.ofBits FTy.f32 8388608#32 ∨ r = Ideal.ofBits FTy.f32 2139095040#32 then 1 else
    Finset.fold min (⊤ : EReal) (fun x : Fin 254 => if r < refPow x then refPow x else ⊤) Finset.univ

theorem refScale_eq {r : EReal} {n : ℕ} (hn : n ≤ 256) (h1 : 1 ≤ n) (h : ∀ k, k < 256 → (pw k ≤ r ↔ k < n)) :
    refScale r = pw (sidx n) := by
  have ha : r < Ideal.ofBits FTy.f32 8388608#32 ↔ n ≤ 1 := by
    rw [tiny_eq, ← not_le, h 1 (by norm_num)]; omega
  have hb : r = Ideal.ofBits FTy.f32 2139095040#32 ↔ n = 256 := by
    rw [inf_eq, ← top_le_iff, ← pw_top, h 255 (by norm_num)]; omega
  unfold refScale sidx
  rw [if_congr (or_congr ha hb) rfl rfl]
  split_ifs with hc
  · exact pw_127.symm
  · refine le_antisymm ?_ ?_
    · rcases Nat.lt_or_ge n 255 with h2 | h2
      · rw [Finset.fold_min_le]
        refine Or.inr ⟨⟨n - 1, by omega⟩, Finset.mem_univ _, ?_⟩
        have hr : r < pw n := by rw [← not_le, h n (by omega)]; omega
        have e : refPow (n - 1) = pw n := by rw [refPow_eq (by omega), show n - 1 + 1 = n by omega]
        show (if r < refPow (n - 1) then refPow (n - 1) else ⊤) ≤ _
        rw [e, if_pos hr]
      · rw [show n = 255 by omega, pw_top]; exact le_top
    · rw [Finset.le_fold_min]
      refine ⟨le_top, fun x _ => ?_⟩
      split_ifs with hx
      · rw [refPow_eq x.isLt] at hx ⊢
        have := x.isLt
        rw [← not_le, h _ (by omega)] at hx
        exact pw_le (by omega) (by omega)
      · exact le_top

theorem inv448_pos : 0 ≤ Ideal.ofBits FTy.f32 991054117#32 := by
  have : Ideal.ofBits FTy.f32 991054117#32 = (((8388608 + 1198373 : ℕ) * (2 : ℝ) ^ (-9 - 23 : ℤ) : ℝ) : EReal) := by
    simp [Ideal.ofBits, Ideal.ieee, -EReal.coe_mul]
  rw [this]
  exact EReal.coe_nonneg.mpr (by positivity)

/-- The kernel's scale of a row is the reference's, and its inverse is the reference's inverse of it. -/
theorem quantiser_eq {a : EReal} (ha : 0 ≤ a) :
    kpow (kexp a) = refScale (a * Ideal.ofBits FTy.f32 991054117#32)
    ∧ kpow (IntOp.subi (0#32) (kexp a)) = refInv (refScale (a * Ideal.ofBits FTy.f32 991054117#32)) := by
  obtain ⟨n, h1, h2, h⟩ := exists_count (a * Ideal.ofBits FTy.f32 991054117#32) (mul_nonneg ha inv448_pos)
  obtain ⟨e1, e2⟩ := kexp_eq h2 h1 h
  rw [refScale_eq h2 h1 h, refInv_eq n h2]
  exact ⟨e1, e2⟩

end Cert.Quant

end
-- ==== Proof.QuantDownValue.lean ====
/-
  What the second and the third region of the kernel leave in their output arrays, over the extended reals, at an index, in terms of what
  their input arrays hold when they are entered.
-/
module

public import proofs.«01_k».proof.Proof.QuantDown
public import proofs.«01_k».proof.Proof.QuantMath
public import Idealize.ShloMosaic.Lib.Pointwise
public import Idealize.ShloMosaic.Lib.IdealHost
public import Idealize.ShloMosaic.Lib.Pipeline.ValueKit
public import Idealize.ShloMosaic.Lib.Pipeline.Covers
public import Idealize.ShloMosaic.PureOps.Ideal

@[expose] public section

set_option maxRecDepth 16384

noncomputable section

namespace Cert.KernelIdeal.Whole

open Cert.KernelIdeal Cert.KernelIdeal.Gen Idealize.ShloMosaic Idealize.ShloMosaic.TcCoe Idealize.SL.Sem Idealize.ShloMosaic.Pipeline

/-! ## The third region's blocks -/

theorem ix2_0 : ∀ t : Fin cfg2.N, win2_0.index t 0 = t.val / 16 ∧ win2_0.index t 1 = 0 := by decide +kernel
theorem ix2_1 : ∀ t : Fin cfg2.N, win2_1.index t 0 = t.val / 16 ∧ win2_1.index t 1 = 0 := by decide +kernel
theorem ix2_2 : ∀ t : Fin cfg2.N, win2_2.index t 0 = 0 ∧ win2_2.index t 1 = t.val % 16 := by decide +kernel
theorem ix2_3 : ∀ t : Fin cfg2.N, win2_3.index t 0 = 0 ∧ win2_3.index t 1 = t.val % 16 := by decide +kernel
theorem ix2_4 : ∀ t : Fin cfg2.N, win2_4.index t 0 = t.val / 16 ∧ win2_4.index t 1 = t.val % 16 := by decide +kernel
theorem lt2 (t : Fin cfg2.N) : t.val < 64 := Nat.lt_of_lt_of_eq t.isLt N_2

theorem read2_0 (X : Vec Ideal S4096x16384 .fp8e4m3) (t : Fin cfg2.N) (r : Fin 1024) (k : Fin 16384) :
    ((cfg2.win 0).blk t).view.read (Elt Ideal) X (ix2 r k) = X (ix2 ⟨1024 * (t.val / 16) + r.val, by have := lt2 t; omega⟩ k) := by
  have h := lt2 t
  obtain ⟨e0, e1⟩ := ix2_0 t
  blk_simp
  blk_ext

theorem read2_1 (X : Vec Ideal S4096x1 .f32) (t : Fin cfg2.N) (r : Fin 1024) (k : Fin 1) :
    ((cfg2.win 1).blk t).view.read (Elt Ideal) X (ix2 r k) = X (ix2 ⟨1024 * (t.val / 16) + r.val, by have := lt2 t; omega⟩ k) := by
  have h := lt2 t
  obtain ⟨e0, e1⟩ := ix2_1 t
  blk_simp
  blk_ext
theorem read2_2 (X : Vec Ideal S16384x8192 .fp8e4m3) (t : Fin cfg2.N) (r : Fin 16384) (k : Fin 512) :
    ((cfg2.win 2).blk t).view.read (Elt Ideal) X (ix2 r k) = X (ix2 r ⟨512 * (t.val % 16) + k.val, by have := lt2 t; omega⟩) := by
  have h := lt2 t
  obtain ⟨e0, e1⟩ := ix2_2 t
  blk_simp
  blk_ext
theorem read2_3 (X : Vec Ideal S1x8192 .f32) (t : Fin cfg2.N) (r : Fin 1) (k : Fin 512) :
    ((cfg2.win 3).blk t).view.read (Elt Ideal) X (ix2 r k) = X (ix2 r ⟨512 * (t.val % 16) + k.val, by have := lt2 t; omega⟩) := by
  have h := lt2 t
  obtain ⟨e0, e1⟩ := ix2_3 t
  blk_simp
  blk_ext
theorem read2_4 (X : Vec Ideal S4096x8192 .f32) (t : Fin cfg2.N) (r : Fin 1024) (k : Fin 512) :
    ((cfg2.win 4).blk t).view.read (Elt Ideal) X (ix2 r k) = X (ix2 ⟨1024 * (t.val / 16) + r.val, by have := lt2 t; omega⟩ ⟨512 * (t.val % 16) + k.val, by have := lt2 t; omega⟩) := by
  have h := lt2 t
  obtain ⟨e0, e1⟩ := ix2_4 t
  blk_simp
  blk_ext

/-- One block of the product. -/
theorem pay2_apply (v0 : Vec Ideal S1024x16384 .fp8e4m3) (v2 : Vec Ideal S16384x512 .fp8e4m3) (v5 : Vec Ideal S1024x1 .f32)
    (v9 : Vec Ideal S1x512 .f32) (r : Fin 1024) (f : Fin 512) :
    k2_pay1 v0 v2 v5 v9 (ix2 r f) = (∑ k, v0 (ix2 r k) * v2 (ix2 k f)) * v5 (ix2 r 0) * v9 (ix2 0 f) := by
  pointwise [k2_pay1]

/-- The whole product, of the codes `C`, the row scales `S`, the weight codes `D` and the weight scales `W`. -/
def downS (C : Vec Ideal S4096x16384 .fp8e4m3) (S : Vec Ideal S4096x1 .f32) (D : Vec Ideal S16384x8192 .fp8e4m3)
    (W : Vec Ideal S1x8192 .f32) : Vec Ideal S4096x8192 .f32 := fun y =>
  (∑ k, C (ix2 ⟨(y 0).val, (y 0).isLt⟩ k) * D (ix2 k ⟨(y 1).val, (y 1).isLt⟩)) * S (ix2 ⟨(y 0).val, (y 0).isLt⟩ 0) * W (ix2 0 ⟨(y 1).val, (y 1).isLt⟩)

variable (V : (c : Dev nD) → (b : Ref sig .tc) → Buf (Elt Ideal) ((c : Thread nD τ).loc b)) (c : Dev nD)

/-- What the third region leaves in its output array. -/
theorem arr2_4 : (dat2 V c).arrAt 4 cfg2.N = downS (V c main_v4_0) (V c main_v4_1) (V c main_arg2) (V c main_v5) := by
  refine (dat2 V c).arrAt_eq_of_covers 4 _ (by decide +kernel) fun t hf y => ?_
  obtain ⟨r, f, rfl⟩ : ∃ (r : Fin 1024) (f : Fin 512), y = ix2 r f := ⟨_, _, eq_ix2 y⟩
  blk_simp
  rw [after2_4]
  frame_out
  refine Eq.trans ?_ (read2_4 (downS (V c main_v4_0) (V c main_v4_1) (V c main_arg2) (V c main_v5)) t r f).symm
  rw [pay2_apply]
  refine congrArg₂ (· * ·) (congrArg₂ (· * ·) (Finset.sum_congr rfl fun k _ => congrArg₂ (· * ·) ?_ ?_) ?_) ?_
  · exact read2_0 (V c main_v4_0) t r k
  · exact read2_2 (V c main_arg2) t k f
  · exact read2_1 (V c main_v4_1) t r 0
  · exact read2_3 (V c main_v5) t 0 f

/-! ## The second region's blocks -/

theorem ix1_0 : ∀ t : Fin cfg1.N, win1_0.index t 0 = t.val / 8 ∧ win1_0.index t 1 = t.val % 8 := by decide +kernel
theorem ix1_1 : ∀ t : Fin cfg1.N, win1_1.index t 0 = t.val / 8 ∧ win1_1.index t 1 = 0 := by decide +kernel
theorem ix1_2 : ∀ t : Fin cfg1.N, win1_2.index t 0 = t.val / 8 ∧ win1_2.index t 1 = t.val % 8 := by decide +kernel
theorem ix1_3 : ∀ t : Fin cfg1.N, win1_3.index t 0 = t.val / 8 ∧ win1_3.index t 1 = 0 := by decide +kernel
theorem lt1 (t : Fin cfg1.N) : t.val < 128 := Nat.lt_of_lt_of_eq t.isLt N_1

theorem read1_0 (X : Vec Ideal S4096x16384 .f32) (t : Fin cfg1.N) (r : Fin 256) (k : Fin 2048) :
    ((cfg1.win 0).blk t).view.read (Elt Ideal) X (ix2 r k) = X (ix2 ⟨256 * (t.val / 8) + r.val, by have := lt1 t; omega⟩ ⟨2048 * (t.val % 8) + k.val, by have := lt1 t; omega⟩) := by
  have h := lt1 t
  obtain ⟨e0, e1⟩ := ix1_0 t
  blk_simp
  blk_ext
theorem read1_1 (X : Vec Ideal S4096x128 .f32) (t : Fin cfg1.N) (r : Fin 256) (k : Fin 128) :
    ((cfg1.win 1).blk t).view.read (Elt Ideal) X (ix2 r k) = X (ix2 ⟨256 * (t.val / 8) + r.val, by have := lt1 t; omega⟩ k) := by
  have h := lt1 t
  obtain ⟨e0, e1⟩ := ix1_1 t
  blk_simp
  blk_ext
theorem read1_2 (X : Vec Ideal S4096x16384 .fp8e4m3) (t : Fin cfg1.N) (r : Fin 256) (k : Fin 2048) :
    ((cfg1.win 2).blk t).view.read (Elt Ideal) X (ix2 r k) = X (ix2 ⟨256 * (t.val / 8) + r.val, by have := lt1 t; omega⟩ ⟨2048 * (t.val % 8) + k.val, by have := lt1 t; omega⟩) := by
  have h := lt1 t
  obtain ⟨e0, e1⟩ := ix1_2 t
  blk_simp
  blk_ext
theorem read1_3 (X : Vec Ideal S4096x1 .f32) (t : Fin cfg1.N) (r : Fin 256) (k : Fin 1) :
    ((cfg1.win 3).blk t).view.read (Elt Ideal) X (ix2 r k) = X (ix2 ⟨256 * (t.val / 8) + r.val, by have := lt1 t; omega⟩ k) := by
  have h := lt1 t
  obtain ⟨e0, e1⟩ := ix1_3 t
  blk_simp
  blk_ext

/-- The largest of a row's running maxima. -/
def laneMax {n : ℕ} (A : (⟨2, ![n, 128]⟩ : Shape).Idx → EReal) (r : Fin n) : EReal :=
  Finset.fold max (Ideal.ofBits FTy.f32 4286578688#32) (fun x : Fin 128 => A (ix2 r x)) Finset.univ

theorem pay1_exp (v0 : Vec Ideal S256x128 .f32) (r : Fin 256) : k1_pay2 v0 (ix2 r 0) = Quant.kexp (laneMax v0 r) := by
  unfold Quant.kexp Quant.count laneMax
  pointwise [k1_pay2]

theorem pay1_scale (v0 : Vec Ideal S256x128 .f32) (r : Fin 256) : k1_pay3 v0 (ix2 r 0) = Quant.kpow (Quant.kexp (laneMax v0 r)) := by
  rw [← pay1_exp]
  unfold k1_pay3 Quant.kpow
  generalize k1_pay2 v0 = e
  pointwise

theorem pay1_codes (v0 : IVec S256x1 32) (v1 : Vec Ideal S256x2048 .f32) (r : Fin 256) (f : Fin 2048) :
    k1_pay1 v0 v1 (ix2 r f) = min (Ideal.ofBits FTy.f32 1138753536#32) (max (Ideal.ofBits FTy.f32 3286237184#32)
      (v1 (ix2 r f) * Quant.kpow (IntOp.subi (0#32) (v0 (ix2 r 0))))) := by
  unfold Quant.kpow
  pointwise [k1_pay1]

/-- The codes of the activations `H` whose running maxima are `A`. -/
def codesS (H : Vec Ideal S4096x16384 .f32) (A : Vec Ideal S4096x128 .f32) : Vec Ideal S4096x16384 .fp8e4m3 := fun y =>
  min (Ideal.ofBits FTy.f32 1138753536#32) (max (Ideal.ofBits FTy.f32 3286237184#32)
    (H (ix2 ⟨(y 0).val, (y 0).isLt⟩ ⟨(y 1).val, (y 1).isLt⟩) * Quant.kpow (IntOp.subi (0#32) (Quant.kexp (laneMax A ⟨(y 0).val, (y 0).isLt⟩)))))

/-- Their scales. -/
def scaleS (A : Vec Ideal S4096x128 .f32) : Vec Ideal S4096x1 .f32 := fun y =>
  Quant.kpow (Quant.kexp (laneMax A ⟨(y 0).val, (y 0).isLt⟩))

theorem laneMax_blk (t : Fin cfg1.N) (r : Fin 256) :
    laneMax (iblk1 V c 1 t) r = laneMax (V c main_v3_1) ⟨256 * (t.val / 8) + r.val, by have := lt1 t; omega⟩ := by
  unfold laneMax
  congr 1
  funext x
  exact read1_1 (V c main_v3_1) t r x

/-- What the second region leaves in its array of codes. -/
theorem arr1_2 : (dat1 V c).arrAt 2 cfg1.N = codesS (V c main_v3_0) (V c main_v3_1) := by
  refine (dat1 V c).arrAt_eq_of_covers 2 _ (by decide +kernel) fun t hf y => ?_
  obtain ⟨r, f, rfl⟩ : ∃ (r : Fin 256) (f : Fin 2048), y = ix2 r f := ⟨_, _, eq_ix2 y⟩
  blk_simp
  rw [after1_2]
  frame_out
  refine Eq.trans ?_ (read1_2 (codesS (V c main_v3_0) (V c main_v3_1)) t r f).symm
  rw [pay1_codes, pay1_exp, laneMax_blk]
  refine congrArg (fun z : EReal => min (Ideal.ofBits FTy.f32 1138753536#32) (max (Ideal.ofBits FTy.f32 3286237184#32)
    (z * Quant.kpow (IntOp.subi (0#32) (Quant.kexp (laneMax (V c main_v3_1) ⟨256 * (t.val / 8) + r.val, by have := lt1 t; omega⟩)))))) ?_
  exact read1_0 (V c main_v3_0) t r f

/-- What the second region leaves in its array of scales. -/
theorem arr1_3 : (dat1 V c).arrAt 3 cfg1.N = scaleS (V c main_v3_1) := by
  refine (dat1 V c).arrAt_eq_of_covers 3 _ (by decide +kernel) fun t hf y => ?_
  obtain ⟨r, f, rfl⟩ : ∃ (r : Fin 256) (f : Fin 1), y = ix2 r f := ⟨_, _, eq_ix2 y⟩
  obtain rfl : f = 0 := Subsingleton.elim _ _
  blk_simp
  rw [after1_3]
  frame_out
  refine Eq.trans ?_ (read1_3 (scaleS (V c main_v3_1)) t r 0).symm
  rw [pay1_scale, laneMax_blk]
  rfl

end Cert.KernelIdeal.Whole

end
-- ==== Proof.UpValue.lean ====
/-
  What the first region of the kernel leaves in its two output arrays, over the extended reals: the hidden activations at an index, and
  of the running maxima the row's largest magnitude.
-/
module

public import proofs.«01_k».proof.Proof.Up
public import proofs.«01_k».proof.Proof.QuantDownValue

@[expose] public section

set_option maxRecDepth 16384

noncomputable section

namespace Cert.KernelIdeal.Whole

open Cert.KernelIdeal Cert.KernelIdeal.Gen Idealize.ShloMosaic Idealize.ShloMosaic.TcCoe Idealize.SL.Sem Idealize.ShloMosaic.Pipeline

/-! ## Blocks -/

theorem ix0_0 : ∀ t : Fin cfg0.N, win0_0.index t 0 = t.val % 8 ∧ win0_0.index t 1 = 0 := by decide +kernel
theorem ix0_1 : ∀ t : Fin cfg0.N, win0_1.index t 0 = 0 ∧ win0_1.index t 1 = t.val / 8 := by decide +kernel
theorem ix0_2 : ∀ t : Fin cfg0.N, win0_2.index t 0 = 0 ∧ win0_2.index t 1 = t.val / 8 + 32 := by decide +kernel
theorem ix0_3 : ∀ t : Fin cfg0.N, win0_3.index t 0 = t.val % 8 ∧ win0_3.index t 1 = t.val / 8 := by decide +kernel
theorem lt0 (t : Fin cfg0.N) : t.val < 256 := Nat.lt_of_lt_of_eq t.isLt N_0

theorem read0_0 (X : Vec Ideal S4096x8192 .bf16) (t : Fin cfg0.N) (r : Fin 512) (k : Fin 8192) :
    ((cfg0.win 0).blk t).view.read (Elt Ideal) X (ix2 r k) = X (ix2 ⟨512 * (t.val % 8) + r.val, by omega⟩ k) := by
  have h := lt0 t
  obtain ⟨e0, e1⟩ := ix0_0 t
  blk_simp
  blk_ext
theorem read0_1 (X : Vec Ideal S8192x32768 .bf16) (t : Fin cfg0.N) (r : Fin 8192) (k : Fin 512) :
    ((cfg0.win 1).blk t).view.read (Elt Ideal) X (ix2 r k) = X (ix2 r ⟨512 * (t.val / 8) + k.val, by have := lt0 t; omega⟩) := by
  have h := lt0 t
  obtain ⟨e0, e1⟩ := ix0_1 t
  blk_simp
  blk_ext
theorem read0_2 (X : Vec Ideal S8192x32768 .bf16) (t : Fin cfg0.N) (r : Fin 8192) (k : Fin 512) :
    ((cfg0.win 2).blk t).view.read (Elt Ideal) X (ix2 r k) = X (ix2 r ⟨16384 + (512 * (t.val / 8) + k.val), by have := lt0 t; omega⟩) := by
  have h := lt0 t
  obtain ⟨e0, e1⟩ := ix0_2 t
  blk_simp
  blk_ext
theorem read0_3 (X : Vec Ideal S4096x16384 .f32) (t : Fin cfg0.N) (r : Fin 512) (k : Fin 512) :
    ((cfg0.win 3).blk t).view.read (Elt Ideal) X (ix2 r k) =
      X (ix2 ⟨512 * (t.val % 8) + r.val, by omega⟩ ⟨512 * (t.val / 8) + k.val, by have := lt0 t; omega⟩) := by
  have h := lt0 t
  obtain ⟨e0, e1⟩ := ix0_3 t
  blk_simp
  blk_ext

/-! ## The hidden activations -/

/-- A row of the activations times a column of the up weight. -/
def dotS (X : Vec Ideal S4096x8192 .bf16) (W : Vec Ideal S8192x32768 .bf16) (r : Fin 4096) (f : Fin 32768) : EReal :=
  ∑ k, X (ix2 r k) * W (ix2 k f)

/-- The gate times its logistic, times the up half. -/
def swiglu (g u : EReal) : EReal := g * Ideal.div 1 (1 + Ideal.exp (0 - g)) * u

theorem pay0_h (v0 : Vec Ideal S512x8192 .bf16) (v2 v5 : Vec Ideal S8192x512 .bf16) (r f : Fin 512) :
    k0_pay1 v0 v2 v5 (ix2 r f) = swiglu (∑ k, v0 (ix2 r k) * v2 (ix2 k f)) (∑ k, v0 (ix2 r k) * v5 (ix2 k f)) := by
  unfold swiglu
  pointwise [k0_pay1]

/-- The hidden activations at an index. -/
def hidS (X : Vec Ideal S4096x8192 .bf16) (W : Vec Ideal S8192x32768 .bf16) : Vec Ideal S4096x16384 .f32 := fun y =>
  swiglu (dotS X W ⟨(y 0).val, (y 0).isLt⟩ ⟨(y 1).val, lt_trans (y 1).isLt (by decide)⟩)
    (dotS X W ⟨(y 0).val, (y 0).isLt⟩ ⟨16384 + (y 1).val, Nat.add_lt_add_left (y 1).isLt 16384⟩)

variable (V : (c : Dev nD) → (b : Ref sig .tc) → Buf (Elt Ideal) ((c : Thread nD τ).loc b)) (c : Dev nD)

/-- One block of them. -/
theorem blk_h (t : Fin cfg0.N) (r f : Fin 512) :
    k0_pay1 (iblk0 V c 0 t) (iblk0 V c 1 t) (iblk0 V c 2 t) (ix2 r f) =
      hidS (V c main_v1) (V c main_v2) (ix2 ⟨512 * (t.val % 8) + r.val, by omega⟩ ⟨512 * (t.val / 8) + f.val, by have := lt0 t; omega⟩) := by
  rw [pay0_h]
  refine congrArg₂ swiglu (Finset.sum_congr rfl fun k _ => congrArg₂ (· * ·) ?_ ?_) (Finset.sum_congr rfl fun k _ => congrArg₂ (· * ·) ?_ ?_)
  · exact read0_0 (V c main_v1) t r k
  · exact read0_1 (V c main_v2) t k f
  · exact read0_0 (V c main_v1) t r k
  · exact read0_2 (V c main_v2) t k f

/-- What the first region leaves in its array of hidden activations. -/
theorem arr0_3 : (dat0 V c).arrAt 3 cfg0.N = hidS (V c main_v1) (V c main_v2) := by
  refine (dat0 V c).arrAt_eq_of_covers 3 _ (by decide +kernel) fun t hf y => ?_
  obtain ⟨r, f, rfl⟩ : ∃ (r : Fin 512) (f : Fin 512), y = ix2 r f := ⟨_, _, eq_ix2 y⟩
  blk_simp
  rw [after0_3]
  frame_out
  refine Eq.trans ?_ (read0_3 (hidS (V c main_v1) (V c main_v2)) t r f).symm
  exact blk_h V c t r f

/-! ## The running maxima -/

/-- The magnitude. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- The first block column starts from zero. -/
theorem select_first (n : ℕ) (h : n < 32) (a b : EReal) :
    Scalar.select (Scalar.cmpi CmpIPredicate.eq (BitVec.ofNat 32 n) 0#32) a b = if n = 0 then a else b := by
  have e : ∀ n : Fin 32, Scalar.cmpi CmpIPredicate.eq (BitVec.ofNat 32 n) 0#32 = 1 ↔ n.val = 0 := by decide +kernel
  unfold Scalar.select
  exact if_congr (e ⟨n, h⟩) rfl rfl

theorem pay0_amax (i : grid0.Coords) (v0 : Vec Ideal S512x8192 .bf16) (v2 v5 : Vec Ideal S8192x512 .bf16) (v9 : Vec Ideal S512x128 .f32)
    (r : Fin 512) (l : Fin 128) (b : EReal) : k0_pay2 i v0 v2 v5 v9 (ix2 r l) ≤ b ↔
      (if (i 0).val = 0 then 0 else v9 (ix2 r l)) ≤ b
      ∧ ∀ q : Fin 4, mag (k0_pay1 v0 v2 v5 (ix2 r ⟨128 * q.val + l.val, by omega⟩)) ≤ b := by
  have e : k0_pay2 i v0 v2 v5 v9 (ix2 r l) = max (if (i 0).val = 0 then 0 else v9 (ix2 r l))
      (max (max (max (mag (k0_pay1 v0 v2 v5 (ix2 r ⟨128 * (0 : Fin 4).val + l.val, by omega⟩)))
        (mag (k0_pay1 v0 v2 v5 (ix2 r ⟨128 * (1 : Fin 4).val + l.val, by omega⟩))))
        (mag (k0_pay1 v0 v2 v5 (ix2 r ⟨128 * (2 : Fin 4).val + l.val, by omega⟩))))
        (mag (k0_pay1 v0 v2 v5 (ix2 r ⟨128 * (3 : Fin 4).val + l.val, by omega⟩)))) := by
    unfold k0_pay2
    generalize k0_pay1 v0 v2 v5 = h
    pointwise
    exact congrArg₂ (max : EReal → EReal → EReal) (select_first (i 0).val (i 0).isLt _ _) rfl
  rw [e, max_le_iff, max_le_iff, max_le_iff, max_le_iff]
  refine and_congr_right fun _ => ⟨fun h q => ?_, fun h => ⟨⟨⟨h 0, h 1⟩, h 2⟩, h 3⟩⟩
  match q with
  | 0 => exact h.1.1.1
  | 1 => exact h.1.1.2
  | 2 => exact h.1.2
  | 3 => exact h.2

/-- The step of block column `j` and row block `ib`. -/
theorem step_le (ib j : ℕ) (hib : ib < 8) (hj : j < 32) (v : Vec Ideal S512x128 .f32) (r : Fin 512) (l : Fin 128) (b : EReal) :
    stepAt V c (pt (j * 8 + ib)) v (ix2 r l) ≤ b ↔
      (if j = 0 then 0 else v (ix2 r l)) ≤ b
      ∧ ∀ q : Fin 4, mag (hidS (V c main_v1) (V c main_v2)
          (ix2 ⟨512 * ib + r.val, by omega⟩ ⟨512 * j + (128 * q.val + l.val), by omega⟩)) ≤ b := by
  have ht : (pt (j * 8 + ib)).val = j * 8 + ib := Nat.mod_eq_of_lt (by omega)
  have h0 : (grid0.coords (pt (j * 8 + ib)) 0).val = j := by rw [coords0_0, ht]; omega
  have e : stepAt V c (pt (j * 8 + ib)) v (ix2 r l) = k0_pay2 (grid0.coords (pt (j * 8 + ib))) (iblk0 V c 0 (pt (j * 8 + ib)))
      (iblk0 V c 1 (pt (j * 8 + ib))) (iblk0 V c 2 (pt (j * 8 + ib))) v (ix2 r l) := by
    unfold stepAt pay0_4
    rw [View.ld_unit_lit, View.ld_unit_lit, View.ld_unit_lit]
    all_goals decide
  rw [e, pay0_amax, h0]
  refine and_congr_right fun _ => forall_congr' fun q => ?_
  rw [blk_h]
  have e1 : (pt (j * 8 + ib)).val % 8 = ib := by omega
  have e2 : (pt (j * 8 + ib)).val / 8 = j := by omega
  simp only [e1, e2]

/-- The running maxima of row block `ib` after block column `j`. -/
theorem acc_le (ib : ℕ) (hib : ib < 8) (r : Fin 512) (l : Fin 128) (b : EReal) : ∀ (j : ℕ) (hj : j < 32),
    accB V c ib j (ix2 r l) ≤ b ↔ 0 ≤ b ∧ ∀ (j' : ℕ) (h' : j' ≤ j) (q : Fin 4),
      mag (hidS (V c main_v1) (V c main_v2) (ix2 ⟨512 * ib + r.val, by omega⟩ ⟨512 * j' + (128 * q.val + l.val), by omega⟩)) ≤ b
  | 0, hj => by
    have := fun v => step_le V c ib 0 hib hj v r l b
    simp only [Nat.zero_mul, Nat.zero_add, if_true] at this
    unfold accB
    rw [this]
    refine and_congr_right fun _ => ⟨fun h j' h' q => ?_, fun h q => by simpa using h 0 le_rfl q⟩
    obtain rfl : j' = 0 := by omega
    simpa using h q
  | j + 1, hj => by
    rw [show accB V c ib (j + 1) = stepAt V c (pt ((j + 1) * 8 + ib)) (accB V c ib j) from rfl, step_le V c ib (j + 1) hib hj,
      if_neg (Nat.succ_ne_zero j), acc_le ib hib r l b j (by omega), and_assoc]
    refine and_congr_right fun _ => ⟨fun h j' h' q => ?_, fun h => ⟨fun j' h' q => h j' (by omega) q, fun q => h (j + 1) le_rfl q⟩⟩
    rcases Nat.lt_or_ge j j' with h1 | h1
    · obtain rfl : j' = j + 1 := by omega
      exact h.2 q
    · exact h.1 j' h1 q

/-- What the first region leaves in its array of running maxima. -/
theorem arr0_4 : (dat0 V c).arrAt 4 cfg0.N = amaxF V c := by
  refine (dat0 V c).arrAt_eq_of_after_last 4 (pt 255) (by decide +kernel) _ fun j => ?_
  blk_simp
  rw [after0_4]

theorem bot_eq : Ideal.ofBits FTy.f32 4286578688#32 = ⊥ := by
  simp [Ideal.ofBits, Ideal.ieee]

/-- The largest of a row's running maxima is the row's largest magnitude. -/
theorem laneMax_amax (r : Fin 4096) : laneMax (amaxF V c) r =
    Finset.fold max (Ideal.ofBits FTy.f32 4286578688#32)
      (fun f : Fin 16384 => mag (hidS (V c main_v1) (V c main_v2) (ix2 r f))) Finset.univ := by
  refine eq_of_forall_ge_iff fun b => ?_
  unfold laneMax
  rw [Finset.fold_max_le, Finset.fold_max_le, bot_eq]
  have hr : 512 * (r.val / 512) + r.val % 512 = r.val := by omega
  have key : ∀ x : Fin 128, amaxF V c (ix2 r x) ≤ b ↔ 0 ≤ b ∧ ∀ (j' : ℕ) (h' : j' ≤ 31) (q : Fin 4),
      mag (hidS (V c main_v1) (V c main_v2) (ix2 r ⟨512 * j' + (128 * q.val + x.val), by omega⟩)) ≤ b := by
    intro x
    have := acc_le V c (r.val / 512) (by omega) ⟨r.val % 512, Nat.mod_lt _ (by decide)⟩ x b 31 (by norm_num)
    simp only [hr] at this
    exact this
  constructor
  · rintro ⟨_, h⟩
    refine ⟨bot_le, fun f _ => ?_⟩
    have h1 := ((key ⟨f.val % 128, Nat.mod_lt _ (by decide)⟩).mp (h _ (Finset.mem_univ _))).2 (f.val / 512) (by omega)
      ⟨f.val % 512 / 128, by omega⟩
    have e : 512 * (f.val / 512) + (128 * (f.val % 512 / 128) + f.val % 128) = f.val := by omega
    simp only [e] at h1
    exact h1
  · rintro ⟨_, h⟩
    refine ⟨bot_le, fun x _ => (key x).mpr ⟨(mag_nonneg _).trans (h 0 (Finset.mem_univ _)), fun j' h' q => h _ (Finset.mem_univ _)⟩⟩

/-- It is not negative. -/
theorem rowMax_nonneg {n : ℕ} (g : Fin (n + 1) → EReal) (a : EReal) : 0 ≤ Finset.fold max a (fun f => mag (g f)) Finset.univ := by
  rw [Finset.le_fold_max]
  exact Or.inr ⟨0, Finset.mem_univ _, mag_nonneg _⟩

end Cert.KernelIdeal.Whole

end
-- ==== Proof.KernelValue.lean ====
/-
  The three results of the kernel, over the extended reals, in terms of its arguments: what each boundary's buffers hold, from the launch
  to the end.
-/
module

public import proofs.«01_k».proof.Proof.Whole
public import proofs.«01_k».proof.Proof.UpValue

@[expose] public section

set_option maxRecDepth 16384

noncomputable section

namespace Cert.KernelIdeal.Whole

open Cert.KernelIdeal Cert.KernelIdeal.Gen Idealize.ShloMosaic Idealize.ShloMosaic.TcCoe Idealize.SL.Sem Idealize.ShloMosaic.Pipeline
open Idealize.ShloMosaic.StableHlo

section stretches
variable (V : Valuation τ sig (Elt Ideal))

theorem h0_v1 : after hostOps0 V (Proc.devRef .tc main_v1) =
    truncf (F := Ideal) (φ := .f32) .bf16 (shapeCast S4096x8192 (V (Proc.devRef .tc main_arg0)) shapeCasts_S1x4096x8192_S4096x8192) bitsLt_bf16_f32 := by
  simp only [hostOps0]; after_results <;> rfl
theorem h0_v2 : after hostOps0 V (Proc.devRef .tc main_v2) = truncf (F := Ideal) (φ := .f32) .bf16 (s := S8192x32768) (V (Proc.devRef .tc main_arg1)) bitsLt_bf16_f32 := by
  simp only [hostOps0]; after_results <;> rfl
theorem h2_v5 : after hostOps2 V (Proc.devRef .tc main_v5) = shapeCast S1x8192 (V (Proc.devRef .tc main_arg3)) shapeCasts_S8192_S1x8192 := by
  simp only [hostOps2]; after_results <;> rfl
theorem h3_v7 : after hostOps3 V (Proc.devRef .tc main_v7) = shapeCast S1x4096x8192 (V (Proc.devRef .tc main_v6)) shapeCasts_S4096x8192_S1x4096x8192 := by
  simp only [hostOps3]; after_results <;> rfl
theorem h3_v8 : after hostOps3 V (Proc.devRef .tc main_v8) = shapeCast S1x4096x16384 (V (Proc.devRef .tc main_v4_0)) shapeCasts_S4096x16384_S1x4096x16384 := by
  simp only [hostOps3]; after_results <;> rfl
theorem h3_v9 : after hostOps3 V (Proc.devRef .tc main_v9) = shapeCast S1x4096x1 (V (Proc.devRef .tc main_v4_1)) shapeCasts_S4096x1_S1x4096x1 := by
  simp only [hostOps3]; after_results <;> rfl
end stretches

variable (m : (ℓ : Loc nD τ sig) → Buf (Elt Ideal) ℓ) (ρ : Dev nD → PrngReg) (c : Dev nD)

abbrev kx : Vec Ideal S1x4096x8192 .f32 := m ((c.tc : Thread nD τ).loc main_arg0)
abbrev kw : Vec Ideal S8192x32768 .f32 := m ((c.tc : Thread nD τ).loc main_arg1)
abbrev kd : Vec Ideal S16384x8192 .fp8e4m3 := m ((c.tc : Thread nD τ).loc main_arg2)
abbrev ks : Vec Ideal S8192 .f32 := m ((c.tc : Thread nD τ).loc main_arg3)

/-- The activations as the up projection reads them. -/
def actS (x : Vec Ideal S1x4096x8192 .f32) : Vec Ideal S4096x8192 .bf16 :=
  truncf (F := Ideal) (φ := .f32) .bf16 (shapeCast S4096x8192 x shapeCasts_S1x4096x8192_S4096x8192) bitsLt_bf16_f32
/-- The up weight as the up projection reads it. -/
def upS (w : Vec Ideal S8192x32768 .f32) : Vec Ideal S8192x32768 .bf16 :=
  truncf (F := Ideal) (φ := .f32) .bf16 w bitsLt_bf16_f32

theorem U1_v1 : U1 m ρ c main_v1 = actS (kx m c) := h0_v1 (B0 m ρ c)
theorem U1_v2 : U1 m ρ c main_v2 = upS (kw m c) := h0_v2 (B0 m ρ c)

/-- The hidden activations of the kernel. -/
abbrev kh : Vec Ideal S4096x16384 .f32 := hidS (actS (kx m c)) (upS (kw m c))
/-- Its running maxima at the end of the up projection. -/
def ka : Vec Ideal S4096x128 .f32 := amaxF (U1 m ρ) c

theorem U2_h : U2 m ρ c main_v3_0 = kh m c :=
  (B2_arr m ρ c 3).trans ((arr0_3 (U1 m ρ) c).trans (by rw [U1_v1, U1_v2]))
theorem U2_a : U2 m ρ c main_v3_1 = ka m ρ c :=
  (B2_arr m ρ c 4).trans (arr0_4 (U1 m ρ) c)
theorem ka_max (r : Fin 4096) : laneMax (ka m ρ c) r =
    Finset.fold max (Ideal.ofBits FTy.f32 4286578688#32) (fun f : Fin 16384 => mag (kh m c (ix2 r f))) Finset.univ := by
  unfold ka
  rw [laneMax_amax, U1_v1, U1_v2]

theorem B3_codes : B3 m ρ c (Proc.devRef .tc main_v4_0) = codesS (kh m c) (ka m ρ c) :=
  (B3_arr m ρ c 2).trans ((arr1_2 (U2 m ρ) c).trans (by rw [U2_h, U2_a]))
theorem B3_scale : B3 m ρ c (Proc.devRef .tc main_v4_1) = scaleS (ka m ρ c) :=
  (B3_arr m ρ c 3).trans ((arr1_3 (U2 m ρ) c).trans (by rw [U2_a]))
theorem B4_codes : B4 m ρ c (Proc.devRef .tc main_v4_0) = codesS (kh m c) (ka m ρ c) :=
  (B4_of m ρ c main_v4_0 (by decide +kernel)).trans (B3_codes m ρ c)
theorem B4_scale : B4 m ρ c (Proc.devRef .tc main_v4_1) = scaleS (ka m ρ c) :=
  (B4_of m ρ c main_v4_1 (by decide +kernel)).trans (B3_scale m ρ c)
theorem B4_down : B4 m ρ c (Proc.devRef .tc main_arg2) = kd m c :=
  (B4_of m ρ c main_arg2 (by decide +kernel)).trans (B3_args m ρ c main_arg2 (by decide))
theorem B4_ws : B4 m ρ c (Proc.devRef .tc main_v5) = shapeCast S1x8192 (ks m c) shapeCasts_S8192_S1x8192 :=
  (h2_v5 (B3 m ρ c)).trans (by rw [B3_args m ρ c main_arg3 (by decide)])
theorem B5_y : B5 m ρ c (Proc.devRef .tc main_v6) =
    downS (codesS (kh m c) (ka m ρ c)) (scaleS (ka m ρ c)) (kd m c) (shapeCast S1x8192 (ks m c) shapeCasts_S8192_S1x8192) :=
  (B5_arr m ρ c 4).trans ((arr2_4 (U4 m ρ) c).trans (by
    rw [show U4 m ρ c main_v4_0 = _ from B4_codes m ρ c, show U4 m ρ c main_v4_1 = _ from B4_scale m ρ c,
      show U4 m ρ c main_arg2 = _ from B4_down m ρ c, show U4 m ρ c main_v5 = _ from B4_ws m ρ c]))
theorem B5_codes : B5 m ρ c (Proc.devRef .tc main_v4_0) = codesS (kh m c) (ka m ρ c) :=
  (B5_of m ρ c main_v4_0 (by decide +kernel)).trans (B4_codes m ρ c)
theorem B5_scale : B5 m ρ c (Proc.devRef .tc main_v4_1) = scaleS (ka m ρ c) :=
  (B5_of m ρ c main_v4_1 (by decide +kernel)).trans (B4_scale m ρ c)

/-- The product that the kernel returns. -/
theorem B6_y : B6 m ρ c (Proc.devRef .tc main_v7) = shapeCast S1x4096x8192
    (downS (codesS (kh m c) (ka m ρ c)) (scaleS (ka m ρ c)) (kd m c) (shapeCast S1x8192 (ks m c) shapeCasts_S8192_S1x8192))
    shapeCasts_S4096x8192_S1x4096x8192 :=
  (h3_v7 (B5 m ρ c)).trans (by rw [B5_y])
/-- The codes that it returns. -/
theorem B6_codes : B6 m ρ c (Proc.devRef .tc main_v8) =
    shapeCast S1x4096x16384 (codesS (kh m c) (ka m ρ c)) shapeCasts_S4096x16384_S1x4096x16384 :=
  (h3_v8 (B5 m ρ c)).trans (by rw [B5_codes])
/-- The scales that it returns. -/
theorem B6_scale : B6 m ρ c (Proc.devRef .tc main_v9) = shapeCast S1x4096x1 (scaleS (ka m ρ c)) shapeCasts_S4096x1_S1x4096x1 :=
  (h3_v9 (B5 m ρ c)).trans (by rw [B5_scale])

end Cert.KernelIdeal.Whole

end
-- ==== Proof.RefRun.lean ====
/-
  The run of the reference: what its host operations compute before its region, one stretch after another, and what the three results
  hold in the end in terms of them and of the region's two arrays.
-/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

variable {F : FTy → Type} [FloatOps F]

/-! ## The values of the host operations -/

section values
variable (x : Vec F S1x4096x8192 .f32) (w : Vec F S8192x32768 .f32) (ws : Vec F S8192 .f32)

/-- The product of the activations with the whole up weight, both rounded to bf16. -/
def gu : FVec F S4096x32768 .f32 :=
  Host.dotGeneral dot_S4096x8192_S8192x32768_S4096x32768_1_0_0_1_n_n none
    (truncf .bf16 (shapeCast S4096x8192 x shapeCasts_S1x4096x8192_S4096x8192) bitsLt_bf16_f32) (truncf .bf16 w bitsLt_bf16_f32)
/-- Its gate half. -/
def gate : FVec F S4096x16384 .f32 := extractStridedSlice S4096x16384 ![0, 0] (gu x w) slices_S4096x32768_S4096x16384_0_0
/-- Its up half. -/
def up : FVec F S4096x16384 .f32 := extractStridedSlice S4096x16384 ![0, 16384] (gu x w) slices_S4096x32768_S4096x16384_0_16384
/-- The gate half times its logistic. -/
def silu (g : FVec F S4096x16384 .f32) : FVec F S4096x16384 .f32 :=
  mulf g (Host.divf (broadcastInDim S4096x16384 ![] bcast_S_S4096x16384 (constant S_ .f32 0x3F800000#32))
    (addf (broadcastInDim S4096x16384 ![] bcast_S_S4096x16384 (constant S_ .f32 0x3F800000#32)) (Host.exp (Host.negf g))))
/-- The activations of the down projection, before quantisation. -/
def hid : FVec F S4096x16384 .f32 := mulf (silu (gate x w)) (up x w)
/-- A row's largest magnitude over 448. -/
def ratio (h : FVec F S4096x16384 .f32) : FVec F S4096x1 .f32 :=
  mulf (broadcastInDim S4096x1 ![0] bcast_S4096_S4096x1_0
      (Host.reduce FloatOps.maximumf (Host.absf h) (constant S_ .f32 0xFF800000#32) reducesTo_S4096x16384_S4096_d1 h_S_))
    (broadcastInDim S4096x1 ![] bcast_S_S4096x1 (constant S_ .f32 0x3B124925#32))
/-- The powers of two of the normal numbers. -/
def powers : FVec F S1x254 .f32 :=
  Host.powf (broadcastInDim S1x254 ![] bcast_S_S1x254 (constant S_ .f32 0x40000000#32))
    (subf (sitofp .f32 (iotaInDim S1x254 32 1)) (broadcastInDim S1x254 ![] bcast_S_S1x254 (constant S_ .f32 0x42FC0000#32)))
/-- The least of them above the ratio. -/
def above (r : FVec F S4096x1 .f32) : FVec F S4096x1 .f32 :=
  broadcastInDim S4096x1 ![0] bcast_S4096_S4096x1_0
    (Host.reduce FloatOps.minimumf
      (select
        (cmpf .ogt (broadcastInDim S4096x254 ![0, 1] bcast_S1x254_S4096x254_0_1 powers)
          (broadcastInDim S4096x254 ![0, 1] bcast_S4096x1_S4096x254_0_1 r))
        (broadcastInDim S4096x254 ![0, 1] bcast_S1x254_S4096x254_0_1 powers)
        (broadcastInDim S4096x254 ![] bcast_S_S4096x254 (id (constant S_ .f32 0x7F800000#32))))
      (constant S_ .f32 0x7F800000#32) reducesTo_S4096x254_S4096_d1 h_S_)
/-- The scale of each row. -/
def scale (r : FVec F S4096x1 .f32) : FVec F S4096x1 .f32 :=
  select
    (ori (cmpf .olt r (broadcastInDim S4096x1 ![] bcast_S_S4096x1 (constant S_ .f32 0x00800000#32)))
      (cmpf .oeq r (broadcastInDim S4096x1 ![] bcast_S_S4096x1 (constant S_ .f32 0x7F800000#32))))
    (broadcastInDim S4096x1 ![] bcast_S_S4096x1 (id (constant S_ .f32 0x3F800000#32))) (above r)

end values

/-! ## The host operations, stretch by stretch -/

variable (m : (ℓ : Loc nD τ sig) → Buf (Elt F) ℓ) (c : Dev nD)

abbrev T0 : Valuation τ sig (Elt F) := fun b => m (c, b)
abbrev T1 : Valuation τ sig (Elt F) := after hostOps0 (T0 m c)
abbrev T2 : Valuation τ sig (Elt F) := after hostOps0_1 (T1 m c)
abbrev T3 : Valuation τ sig (Elt F) := after hostOps0_2 (T2 m c)
abbrev T4 : Valuation τ sig (Elt F) := after hostOps0_3 (T3 m c)
abbrev T5 : Valuation τ sig (Elt F) := after hostOps0_4 (T4 m c)
abbrev T6 : Valuation τ sig (Elt F) := after hostOps0_5 (T5 m c)
abbrev T7 : Valuation τ sig (Elt F) := after hostOps0_6 (T6 m c)

theorem V0_eq : Gen.V0 m c = T7 m c := by
  simp only [Gen.V0, List.flatten_cons, List.flatten_nil, List.append_nil, StableHlo.after_append]

/-- The arguments. -/
abbrev ax : Vec F S1x4096x8192 .f32 := m ((c.tc : Thread nD τ).loc main_arg0)
abbrev aw : Vec F S8192x32768 .f32 := m ((c.tc : Thread nD τ).loc main_arg1)
abbrev ad : Vec F S16384x8192 .fp8e4m3 := m ((c.tc : Thread nD τ).loc main_arg2)
abbrev aws : Vec F S8192 .f32 := m ((c.tc : Thread nD τ).loc main_arg3)

section stretches
variable (V : Valuation τ sig (Elt F))

theorem s1_v3 : after hostOps0 V (Proc.devRef .tc main_v3) = gu (V (Proc.devRef .tc main_arg0)) (V (Proc.devRef .tc main_arg1)) := by
  unfold gu; simp only [hostOps0]; after_results <;> rfl
theorem s1_v4 : after hostOps0 V (Proc.devRef .tc main_v4) = gate (V (Proc.devRef .tc main_arg0)) (V (Proc.devRef .tc main_arg1)) := by
  unfold gate gu; simp only [hostOps0]; after_results <;> rfl
theorem s2_v3 : after hostOps0_1 V (Proc.devRef .tc main_v3) = V (Proc.devRef .tc main_v3) := by
  simp only [hostOps0_1, TRef.binary, TRef.nullary, TRef.ternary, TRef.unary, TRef.toBuf, TRef.ofBuf, cast_eq]; after_results <;> rfl
theorem s2_v5 : after hostOps0_1 V (Proc.devRef .tc main_v5) = silu (V (Proc.devRef .tc main_v4)) := by
  unfold silu
  simp only [hostOps0_1, TRef.binary, TRef.nullary, TRef.ternary, TRef.unary, TRef.toBuf, TRef.ofBuf, cast_eq]; after_results <;> rfl
theorem s3_v7 : after hostOps0_2 V (Proc.devRef .tc main_v7) = mulf (s := S4096x16384) (φ := .f32) (V (Proc.devRef .tc main_v5))
    (extractStridedSlice S4096x16384 ![0, 16384] (V (Proc.devRef .tc main_v3)) slices_S4096x32768_S4096x16384_0_16384) := by
  simp only [hostOps0_2]; after_results <;> rfl
theorem s3_v12 : after hostOps0_2 V (Proc.devRef .tc main_v12) = ratio (after hostOps0_2 V (Proc.devRef .tc main_v7)) := by
  unfold ratio; simp only [hostOps0_2]; after_results <;> rfl
theorem s3_v17 : after hostOps0_2 V (Proc.devRef .tc main_v17) = powers := by
  unfold powers; simp only [hostOps0_2]; after_results <;> rfl
theorem s3_v20 : after hostOps0_2 V (Proc.devRef .tc main_v20) =
    cmpf .ogt (broadcastInDim S4096x254 ![0, 1] bcast_S1x254_S4096x254_0_1 (powers (F := F)))
      (broadcastInDim S4096x254 ![0, 1] bcast_S4096x1_S4096x254_0_1 (after hostOps0_2 V (Proc.devRef .tc main_v12))) := by
  unfold powers; simp only [hostOps0_2]; after_results <;> rfl
theorem s3_cst_3 : after hostOps0_2 V (Proc.devRef .tc main_cst_3) = constant S_ .f32 0x7F800000#32 := by
  simp only [hostOps0_2]; after_results <;> rfl
theorem s4_v21 : after hostOps0_3 V (Proc.devRef .tc main_v21) =
    select (V (Proc.devRef .tc main_v20)) (broadcastInDim S4096x254 ![0, 1] bcast_S1x254_S4096x254_0_1 (V (Proc.devRef .tc main_v17)))
      (broadcastInDim S4096x254 ![] bcast_S_S4096x254 (id (V (Proc.devRef .tc main_cst_3)))) := by
  simp only [hostOps0_3, TRef.binary, TRef.nullary, TRef.ternary, TRef.unary, TRef.toBuf, TRef.ofBuf, cast_eq]; after_results <;> rfl
theorem s4_v12 : after hostOps0_3 V (Proc.devRef .tc main_v12) = V (Proc.devRef .tc main_v12) := by
  simp only [hostOps0_3, TRef.binary, TRef.nullary, TRef.ternary, TRef.unary, TRef.toBuf, TRef.ofBuf, cast_eq]; after_results <;> rfl
theorem s4_v7 : after hostOps0_3 V (Proc.devRef .tc main_v7) = V (Proc.devRef .tc main_v7) := by
  simp only [hostOps0_3, TRef.binary, TRef.nullary, TRef.ternary, TRef.unary, TRef.toBuf, TRef.ofBuf, cast_eq]; after_results <;> rfl
theorem s5_v7 : after hostOps0_4 V (Proc.devRef .tc main_v7) = V (Proc.devRef .tc main_v7) := by
  simp only [hostOps0_4]; after_results <;> rfl
theorem s5_v23 : after hostOps0_4 V (Proc.devRef .tc main_v23) =
    broadcastInDim S4096x1 ![0] bcast_S4096_S4096x1_0 (Host.reduce FloatOps.minimumf (V (Proc.devRef .tc main_v21))
      (constant S_ .f32 0x7F800000#32) reducesTo_S4096x254_S4096_d1 h_S_) := by
  simp only [hostOps0_4]; after_results <;> rfl
theorem s5_v28 : after hostOps0_4 V (Proc.devRef .tc main_v28) =
    ori (cmpf .olt (V (Proc.devRef .tc main_v12)) (broadcastInDim S4096x1 ![] bcast_S_S4096x1 (constant (F := F) S_ .f32 0x00800000#32)))
      (cmpf .oeq (V (Proc.devRef .tc main_v12)) (broadcastInDim S4096x1 ![] bcast_S_S4096x1 (constant (F := F) S_ .f32 0x7F800000#32))) := by
  simp only [hostOps0_4]; after_results <;> rfl
theorem s5_cst_7 : after hostOps0_4 V (Proc.devRef .tc main_cst_7) = constant S_ .f32 0x3F800000#32 := by
  simp only [hostOps0_4]; after_results <;> rfl
theorem s6_v29 : after hostOps0_5 V (Proc.devRef .tc main_v29) =
    select (V (Proc.devRef .tc main_v28)) (broadcastInDim S4096x1 ![] bcast_S_S4096x1 (id (V (Proc.devRef .tc main_cst_7))))
      (V (Proc.devRef .tc main_v23)) := by
  simp only [hostOps0_5, TRef.binary, TRef.nullary, TRef.ternary, TRef.unary, TRef.toBuf, TRef.ofBuf, cast_eq]; after_results <;> rfl
theorem s6_v7 : after hostOps0_5 V (Proc.devRef .tc main_v7) = V (Proc.devRef .tc main_v7) := by
  simp only [hostOps0_5, TRef.binary, TRef.nullary, TRef.ternary, TRef.unary, TRef.toBuf, TRef.ofBuf, cast_eq]; after_results <;> rfl
theorem s7_v7 : after hostOps0_6 V (Proc.devRef .tc main_v7) = V (Proc.devRef .tc main_v7) := by
  simp only [hostOps0_6]; after_results <;> rfl
theorem s7_v29 : after hostOps0_6 V (Proc.devRef .tc main_v29) = V (Proc.devRef .tc main_v29) := by
  simp only [hostOps0_6]; after_results <;> rfl
theorem s7_v30 : after hostOps0_6 V (Proc.devRef .tc main_v30) = shapeCast S1x8192 (V (Proc.devRef .tc main_arg3)) shapeCasts_S8192_S1x8192 := by
  simp only [hostOps0_6]; after_results <;> rfl

theorem s7_arg3 : after hostOps0_6 V (Proc.devRef .tc main_arg3) = V (Proc.devRef .tc main_arg3) := by
  simp only [hostOps0_6]; after_results <;> rfl

end stretches

theorem T3_v7 : T3 m c (Proc.devRef .tc main_v7) = hid (ax m c) (aw m c) := by
  unfold hid up T3 T2 T1
  rw [s3_v7, s2_v5, s2_v3, s1_v4, s1_v3]

theorem T3_v12 : T3 m c (Proc.devRef .tc main_v12) = ratio (hid (ax m c) (aw m c)) :=
  (s3_v12 (T2 m c)).trans (congrArg ratio (T3_v7 m c))

/-- The region is entered with the hidden activations in `main_v7`. -/
theorem V0_v7 : Gen.V0 m c (Proc.devRef .tc main_v7) = hid (ax m c) (aw m c) := by
  rw [V0_eq]; unfold T7 T6 T5 T4
  rw [s7_v7, s6_v7, s5_v7, s4_v7, T3_v7]

/-- The region is entered with the scales in `main_v29`. -/
theorem V0_v29 : Gen.V0 m c (Proc.devRef .tc main_v29) = scale (ratio (hid (ax m c) (aw m c))) := by
  unfold scale above
  rw [V0_eq]; unfold T7 T6 T5 T4
  rw [s7_v29, s6_v29, s5_v28, s5_cst_7, s5_v23, s4_v21, s4_v12, show T3 m c (Proc.devRef .tc main_v20) = _ from s3_v20 (T2 m c),
    show T3 m c (Proc.devRef .tc main_v17) = _ from s3_v17 (T2 m c), show T3 m c (Proc.devRef .tc main_cst_3) = _ from s3_cst_3 (T2 m c),
    T3_v12, show after hostOps0_2 (T2 m c) (Proc.devRef .tc main_v12) = _ from T3_v12 m c]

/-- The region is entered with the weight scales, as one row, in `main_v30`. -/
theorem V0_v30 : Gen.V0 m c (Proc.devRef .tc main_v30) = shapeCast S1x8192 (aws m c) shapeCasts_S8192_S1x8192 := by
  have h : T6 m c (Proc.devRef .tc main_arg3) = m ((c.tc : Thread nD τ).loc main_arg3) := by
    have h7 : T7 m c (Proc.devRef .tc main_arg3) = T6 m c (Proc.devRef .tc main_arg3) := s7_arg3 (T6 m c)
    rw [← h7, ← V0_eq]; exact Gen.V_main_arg3 m c
  rw [V0_eq]
  exact (s7_v30 (T6 m c)).trans (by rw [h])

/-! ## The results -/

/-- The contents when the region is left. -/
abbrev exitV : Valuation τ sig (Elt F) :=
  Pipeline.withArrays spec0 c (Gen.V0 m c) fun w => (Gen.dats m 0 c).arrAt w cfg0.N

theorem exit_v31_0 : exitV m c (Proc.devRef .tc main_v31_0) = (Gen.dats m 0 c).arrAt 4 cfg0.N :=
  Pipeline.withArrays_arr spec0 Gen.launch0.win.arr_inj c (Gen.V0 m c) _ 4
theorem exit_v31_1 : exitV m c (Proc.devRef .tc main_v31_1) = (Gen.dats m 0 c).arrAt 5 cfg0.N :=
  Pipeline.withArrays_arr spec0 Gen.launch0.win.arr_inj c (Gen.V0 m c) _ 5
theorem exit_v29 : exitV m c (Proc.devRef .tc main_v29) = scale (ratio (hid (ax m c) (aw m c))) :=
  ((Pipeline.withArrays_arr spec0 Gen.launch0.win.arr_inj c (Gen.V0 m c) _ 1).trans
    (((Gen.dats m 0 c).arrAt_in 1 rfl _).trans (Gen.A_eq m c 1))).trans (V0_v29 m c)

theorem fin_v32 : Pipeline.afterTail₀ cfgs (Gen.dats m) 0 (Gen.V0 m) [Gen.hostOps1] c main_v32
    = shapeCast S1x4096x8192 ((Gen.dats m 0 c).arrAt 4 cfg0.N) shapeCasts_S4096x8192_S1x4096x8192 :=
  (show after (List.flatten [Gen.hostOps1]) (exitV m c) (Proc.devRef .tc main_v32) = shapeCast _ (exitV m c (Proc.devRef .tc main_v31_0)) _ from by
    simp only [Gen.hostOps1, List.flatten_cons, List.flatten_nil, List.append_nil, List.cons_append, List.nil_append]
    after_results <;> rfl).trans (by rw [exit_v31_0]; rfl)
theorem fin_v33 : Pipeline.afterTail₀ cfgs (Gen.dats m) 0 (Gen.V0 m) [Gen.hostOps1] c main_v33
    = shapeCast S1x4096x16384 ((Gen.dats m 0 c).arrAt 5 cfg0.N) shapeCasts_S4096x16384_S1x4096x16384 :=
  (show after (List.flatten [Gen.hostOps1]) (exitV m c) (Proc.devRef .tc main_v33) = shapeCast _ (exitV m c (Proc.devRef .tc main_v31_1)) _ from by
    simp only [Gen.hostOps1, List.flatten_cons, List.flatten_nil, List.append_nil, List.cons_append, List.nil_append]
    after_results <;> rfl).trans (by rw [exit_v31_1]; rfl)
theorem fin_v34 : Pipeline.afterTail₀ cfgs (Gen.dats m) 0 (Gen.V0 m) [Gen.hostOps1] c main_v34
    = shapeCast S1x4096x1 (scale (ratio (hid (ax m c) (aw m c)))) shapeCasts_S4096x1_S1x4096x1 :=
  (show after (List.flatten [Gen.hostOps1]) (exitV m c) (Proc.devRef .tc main_v34) = shapeCast _ (exitV m c (Proc.devRef .tc main_v29)) _ from by
    simp only [Gen.hostOps1, List.flatten_cons, List.flatten_nil, List.append_nil, List.cons_append, List.nil_append]
    after_results <;> rfl).trans (by rw [exit_v29]; rfl)

/-- Every weakly fair execution of the reference terminates with its results the region's two arrays and the scales, reshaped, and the
    arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v32) = shapeCast S1x4096x8192 ((Gen.dats m 0 c).arrAt 4 cfg0.N) shapeCasts_S4096x8192_S1x4096x8192
      ∧ r.2.mem ((c.tc : Thread nD τ).loc main_v33) = shapeCast S1x4096x16384 ((Gen.dats m 0 c).arrAt 5 cfg0.N) shapeCasts_S4096x16384_S1x4096x16384
      ∧ r.2.mem ((c.tc : Thread nD τ).loc main_v34) = shapeCast S1x4096x1 (scale (ratio (hid (ax m c) (aw m c)))) shapeCasts_S4096x1_S1x4096x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v32 (Pipeline.mem_restRefs_of main_v32 (by decide) (by decide))).trans (fin_v32 m c),
      ((h c).2 main_v33 (Pipeline.mem_restRefs_of main_v33 (by decide) (by decide))).trans (fin_v33 m c),
      ((h c).2 main_v34 (Pipeline.mem_restRefs_of main_v34 (by decide) (by decide))).trans (fin_v34 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).1 2).trans (((Gen.dats m 0 c).arrAt_in 2 rfl _).trans ((Gen.A_eq m c 2).trans (Gen.V_main_arg2 m c))),
      ((h c).2 main_arg3 (Pipeline.mem_restRefs_of main_arg3 (by decide) (by decide))).trans (Gen.W_main_arg3 m (Gen.dats m) c)⟩) (Gen.run_main m ρ)

end Cert.ReferenceIdeal.Whole

end
-- ==== Proof.RefValue.lean ====
/-
  What the reference's arrays hold at an index, over the extended reals.
-/
module

public import proofs.«01_k».proof.Proof.RefRun
public import proofs.«01_k».proof.Proof.QuantMath
public import Idealize.ShloMosaic.Lib.Pointwise
public import Idealize.ShloMosaic.Lib.IdealHost
public import Idealize.ShloMosaic.Lib.Pipeline.ValueKit
public import Idealize.ShloMosaic.Lib.Pipeline.Covers
public import Idealize.ShloMosaic.PureOps.Ideal

@[expose] public section

set_option maxRecDepth 16384

noncomputable section

namespace Cert.ReferenceIdeal.Whole

open Cert.ReferenceIdeal Cert.ReferenceIdeal.Gen Idealize.ShloMosaic Idealize.ShloMosaic.TcCoe Idealize.SL.Sem Idealize.ShloMosaic.StableHlo

/-- The largest of a row, for any row length. -/
theorem rowMax_apply {n0 n1 : ℕ} {u : Shape} (x : (⟨2, ![n0, n1]⟩ : Shape).Idx → EReal) (init : u.Idx → EReal)
    (h : (⟨2, ![n0, n1]⟩ : Shape).ReducesTo [1] ⟨1, ![n0]⟩) (hu : 0 < u.numel) (r : Fin n0) :
    Host.reduce (FloatOps.maximumf (F := Ideal) (φ := .f32)) x init h hu (ix1 r) =
      (Finset.univ : Finset (Fin n1)).fold (max : EReal → EReal → EReal) (init (Shape.Idx.first hu)) fun k => x (ix2 r k) := by
  rw [Host.reduce_eq_fold, Shape.ReducesTo.fold_fiber_r2_a1]
  rfl

theorem ratio_parts (v : FVec Ideal S4096 .f32) (r : Fin 4096) :
    mulf (broadcastInDim S4096x1 ![0] bcast_S4096_S4096x1_0 v)
      (broadcastInDim S4096x1 ![] bcast_S_S4096x1 (constant S_ .f32 0x3B124925#32)) (ix2 r 0) = v (ix1 r) * Ideal.ofBits FTy.f32 991054117#32 := by
  pointwise

theorem ratio_apply (h : FVec Ideal S4096x16384 .f32) (r : Fin 4096) : ratio h (ix2 r 0) =
    (Finset.univ : Finset (Fin 16384)).fold (max : EReal → EReal → EReal) (Ideal.ofBits .f32 0xFF800000#32)
      (fun f => max (h (ix2 r f)) (-h (ix2 r f))) * Ideal.ofBits FTy.f32 991054117#32 := by
  have e : ratio h (ix2 r 0) = Host.reduce FloatOps.maximumf (Host.absf h) (constant (F := Ideal) S_ .f32 0xFF800000#32)
      reducesTo_S4096x16384_S4096_d1 h_S_ (ix1 r) * Ideal.ofBits FTy.f32 991054117#32 := by
    unfold ratio; exact ratio_parts _ r
  have e2 : Host.reduce FloatOps.maximumf (Host.absf h) (constant (F := Ideal) S_ .f32 0xFF800000#32)
      reducesTo_S4096x16384_S4096_d1 h_S_ (ix1 r) =
      (Finset.univ : Finset (Fin 16384)).fold (max : EReal → EReal → EReal) (constant (F := Ideal) S_ .f32 0xFF800000#32 (Shape.Idx.first h_S_))
        fun k => Host.absf h (ix2 r k) :=
    rowMax_apply (Host.absf h) (constant (F := Ideal) S_ .f32 0xFF800000#32) reducesTo_S4096x16384_S4096_d1 h_S_ r
  rw [e, e2]; rfl

theorem select_or (A B : Prop) [Decidable A] [Decidable B] (a b : EReal) :
    Scalar.select (IntOp.ori (BitVec.ofBool (decide A)) (BitVec.ofBool (decide B))) a b = if A ∨ B then a else b := by
  unfold Scalar.select IntOp.ori
  by_cases hA : A <;> by_cases hB : B <;> simp [hA, hB]

theorem scale_apply (h : FVec Ideal S4096x1 .f32) (r : Fin 4096) : scale h (ix2 r 0) = Quant.refScale (h (ix2 r 0)) := by
  unfold scale above powers Quant.refScale Quant.refPow
  pointwise
  refine (select_or _ _ _ _).trans (if_congr Iff.rfl Quant.one_eq ?_)
  rw [← Quant.inf_eq]
  rfl

theorem hid_apply (x : Vec Ideal S1x4096x8192 .f32) (w : Vec Ideal S8192x32768 .f32) (r : Fin 4096) (f : Fin 16384) :
    hid x w (ix2 r f) =
      ((∑ k, x (ix3 0 r k) * w (ix2 k ⟨f, by omega⟩)) * Ideal.div 1 (1 + Ideal.exp (-∑ k, x (ix3 0 r k) * w (ix2 k ⟨f, by omega⟩))))
        * ∑ k, x (ix3 0 r k) * w (ix2 k ⟨16384 + f, by omega⟩) := by
  have e1 : gate x w (ix2 r f) = ∑ k, x (ix3 0 r k) * w (ix2 k ⟨f, by omega⟩) := by
    unfold gate gu
    pointwise
  have e2 : up x w (ix2 r f) = ∑ k, x (ix3 0 r k) * w (ix2 k ⟨16384 + f, by omega⟩) := by
    unfold up gu
    pointwise
  have e3 : ∀ g : FVec Ideal S4096x16384 .f32, silu g (ix2 r f) = g (ix2 r f) * Ideal.div 1 (1 + Ideal.exp (-g (ix2 r f))) := by
    intro g
    unfold silu
    pointwise
  rw [← e1, ← e2]
  unfold hid
  show silu (gate x w) (ix2 r f) * _ = _
  rw [e3]

theorem pay1_apply (s : Vec Ideal S4096x1 .f32) (h : Vec Ideal S4096x16384 .f32) (r : Fin 4096) (f : Fin 16384) :
    k0_pay1 s h (ix2 r f) = min (Ideal.ofBits FTy.f32 1138753536#32) (max (Ideal.ofBits FTy.f32 3286237184#32)
      (h (ix2 r f) * Quant.refInv (s (ix2 r 0)))) := by
  unfold Quant.refInv
  pointwise [k0_pay1]

theorem pay2_apply (s : Vec Ideal S4096x1 .f32) (h : Vec Ideal S4096x16384 .f32) (wd : Vec Ideal S16384x8192 .fp8e4m3)
    (s' : Vec Ideal S4096x1 .f32) (ws : Vec Ideal S1x8192 .f32) (r : Fin 4096) (f : Fin 8192) :
    k0_pay2 s h wd s' ws (ix2 r f) = (∑ k, k0_pay1 s h (ix2 r k) * wd (ix2 k f)) * s' (ix2 r 0) * ws (ix2 0 f) := by
  unfold k0_pay2
  generalize k0_pay1 s h = p
  pointwise

variable (m : (ℓ : Loc nD τ sig) → Buf (Elt Ideal) ℓ) (c : Dev nD)

/-- The region's one block of an array is the whole array, whatever it holds. -/
theorem read0 (X : Vec Ideal S4096x16384 .f32) (y : ((cfg0.win 0).xblock (cfg0.grid.coords t0_0)).Idx) :
    ((cfg0.win 0).blk t0_0).view.read (Elt Ideal) X y = X y := by
  have e0 : win0_0.index t0_0 0 = 0 := by decide +kernel
  have e1 : win0_0.index t0_0 1 = 0 := by decide +kernel
  blk_simp
  blk_ext
theorem read1 (X : Vec Ideal S4096x1 .f32) (y : ((cfg0.win 1).xblock (cfg0.grid.coords t0_0)).Idx) :
    ((cfg0.win 1).blk t0_0).view.read (Elt Ideal) X y = X y := by
  have e0 : win0_1.index t0_0 0 = 0 := by decide +kernel
  have e1 : win0_1.index t0_0 1 = 0 := by decide +kernel
  blk_simp
  blk_ext
theorem read2 (X : Vec Ideal S16384x8192 .fp8e4m3) (y : ((cfg0.win 2).xblock (cfg0.grid.coords t0_0)).Idx) :
    ((cfg0.win 2).blk t0_0).view.read (Elt Ideal) X y = X y := by
  have e0 : win0_2.index t0_0 0 = 0 := by decide +kernel
  have e1 : win0_2.index t0_0 1 = 0 := by decide +kernel
  blk_simp
  blk_ext
theorem read3 (X : Vec Ideal S1x8192 .f32) (y : ((cfg0.win 3).xblock (cfg0.grid.coords t0_0)).Idx) :
    ((cfg0.win 3).blk t0_0).view.read (Elt Ideal) X y = X y := by
  have e0 : win0_3.index t0_0 0 = 0 := by decide +kernel
  have e1 : win0_3.index t0_0 1 = 0 := by decide +kernel
  blk_simp
  blk_ext

/-- The region's blocks are the whole arrays that it is entered with. -/
theorem blk0 : (iblk m c 0 t0_0 : Vec Ideal S4096x16384 .f32) = hid (ax m c) (aw m c) :=
  (funext fun y => read0 (Gen.V0 m c (Proc.devRef .tc main_v7)) y : (iblk m c 0 t0_0 : Vec Ideal S4096x16384 .f32) = Gen.V0 m c (Proc.devRef .tc main_v7)).trans (V0_v7 m c)
theorem blk1 : (iblk m c 1 t0_0 : Vec Ideal S4096x1 .f32) = scale (ratio (hid (ax m c) (aw m c))) :=
  (funext fun y => read1 (Gen.V0 m c (Proc.devRef .tc main_v29)) y : (iblk m c 1 t0_0 : Vec Ideal S4096x1 .f32) = Gen.V0 m c (Proc.devRef .tc main_v29)).trans (V0_v29 m c)
theorem blk2 : (iblk m c 2 t0_0 : Vec Ideal S16384x8192 .fp8e4m3) = ad m c :=
  (funext fun y => read2 (Gen.V0 m c (Proc.devRef .tc main_arg2)) y : (iblk m c 2 t0_0 : Vec Ideal S16384x8192 .fp8e4m3) = Gen.V0 m c (Proc.devRef .tc main_arg2)).trans (Gen.V_main_arg2 m c)
theorem blk3 : (iblk m c 3 t0_0 : Vec Ideal S1x8192 .f32) = shapeCast S1x8192 (aws m c) shapeCasts_S8192_S1x8192 :=
  (funext fun y => read3 (Gen.V0 m c (Proc.devRef .tc main_v30)) y : (iblk m c 3 t0_0 : Vec Ideal S1x8192 .f32) = Gen.V0 m c (Proc.devRef .tc main_v30)).trans (V0_v30 m c)

/-- The reference's codes: the quantiser of the hidden activations. -/
theorem arr5 : (Gen.dats m 0 c).arrAt 5 cfg0.N = k0_pay1 (scale (ratio (hid (ax m c) (aw m c)))) (hid (ax m c) (aw m c)) := by
  refine (Gen.dats m 0 c).arrAt_eq_of_after_last 5 t0_0 (by decide +kernel) _ fun j => ?_
  blk_simp
  rw [after0_5]
  frame_out
  rw [blk0, blk1]

/-- The reference's product: the codes times the down weight, scaled. -/
theorem arr4 : (Gen.dats m 0 c).arrAt 4 cfg0.N = k0_pay2 (scale (ratio (hid (ax m c) (aw m c)))) (hid (ax m c) (aw m c)) (ad m c)
    (scale (ratio (hid (ax m c) (aw m c)))) (shapeCast S1x8192 (aws m c) shapeCasts_S8192_S1x8192) := by
  refine (Gen.dats m 0 c).arrAt_eq_of_after_last 4 t0_0 (by decide +kernel) _ fun j => ?_
  blk_simp
  rw [after0_4]
  frame_out
  rw [blk0, blk1, blk2, blk3]

end Cert.ReferenceIdeal.Whole

end
-- ==== Proof.Equation.lean ====
/-
  The equation: over the extended reals the kernel's hidden activations, scales, codes and product are the reference's, at every argument.
-/
module

public import proofs.«01_k».proof.Proof.KernelValue
public import proofs.«01_k».proof.Proof.RefValue

@[expose] public section

set_option maxRecDepth 16384

noncomputable section

namespace Cert.Equation

open Idealize.ShloMosaic Idealize.ShloMosaic.TcCoe Idealize.SL.Sem Cert.KernelIdeal

/-- The hidden activations agree. -/
theorem hid_eq (x : Vec Ideal S1x4096x8192 .f32) (w : Vec Ideal S8192x32768 .f32) :
    Whole.hidS (Whole.actS x) (Whole.upS w) = ReferenceIdeal.Whole.hid x w := by
  funext y
  obtain ⟨r, f, rfl⟩ : ∃ (r : Fin 4096) (f : Fin 16384), y = ix2 r f := ⟨_, _, eq_ix2 y⟩
  rw [ReferenceIdeal.Whole.hid_apply]
  have hx : ∀ (r : Fin 4096) (k : Fin 8192), Whole.actS x (ix2 r k) = x (ix3 0 r k) := fun r k => by
    unfold Whole.actS; pointwise
  have hd : ∀ (r : Fin 4096) (f : Fin 32768), Whole.dotS (Whole.actS x) (Whole.upS w) r f = ∑ k, x (ix3 0 r k) * w (ix2 k f) := fun r f => by
    unfold Whole.dotS
    refine Finset.sum_congr rfl fun k _ => ?_
    rw [hx]; rfl
  unfold Whole.hidS Whole.swiglu
  rw [hd, hd, zero_sub]
  rfl

/-- The reference's scales of hidden activations. -/
abbrev refScales (H : Vec Ideal S4096x16384 .f32) : Vec Ideal S4096x1 .f32 :=
  ReferenceIdeal.Whole.scale (F := Ideal) (ReferenceIdeal.Whole.ratio (F := Ideal) H)

section rows
variable (H : Vec Ideal S4096x16384 .f32) (A : Vec Ideal S4096x128 .f32)
  (hA : ∀ r : Fin 4096, Whole.laneMax A r =
    Finset.fold max (Ideal.ofBits FTy.f32 4286578688#32) (fun f : Fin 16384 => Whole.mag (H (ix2 r f))) Finset.univ)
include hA

theorem ratio_eq (r : Fin 4096) : ReferenceIdeal.Whole.ratio (F := Ideal) H (ix2 r 0) = Whole.laneMax A r * Ideal.ofBits FTy.f32 991054117#32 := by
  rw [ReferenceIdeal.Whole.ratio_apply, hA]; rfl

theorem refScales_apply (r : Fin 4096) : refScales H (ix2 r 0) = Quant.refScale (Whole.laneMax A r * Ideal.ofBits FTy.f32 991054117#32) :=
  (ReferenceIdeal.Whole.scale_apply _ r).trans (congrArg Quant.refScale (ratio_eq H A hA r))

theorem lane_nonneg (r : Fin 4096) : 0 ≤ Whole.laneMax A r := by
  rw [hA]; exact Whole.rowMax_nonneg _ _

/-- The scales agree. -/
theorem scale_eq : Whole.scaleS A = refScales H := by
  funext y
  obtain ⟨r, f, rfl⟩ : ∃ (r : Fin 4096) (f : Fin 1), y = ix2 r f := ⟨_, _, eq_ix2 y⟩
  obtain rfl : f = 0 := Subsingleton.elim _ _
  rw [refScales_apply H A hA]
  exact (Quant.quantiser_eq (lane_nonneg H A hA r)).1

/-- The codes agree. -/
theorem codes_eq : Whole.codesS H A = ReferenceIdeal.Gen.k0_pay1 (refScales H) H := by
  funext y
  obtain ⟨r, f, rfl⟩ : ∃ (r : Fin 4096) (f : Fin 16384), y = ix2 r f := ⟨_, _, eq_ix2 y⟩
  rw [ReferenceIdeal.Whole.pay1_apply, refScales_apply H A hA, ← (Quant.quantiser_eq (lane_nonneg H A hA r)).2]
  rfl

/-- The products agree. -/
theorem down_eq (D : Vec Ideal S16384x8192 .fp8e4m3) (s : Vec Ideal S1x8192 .f32) :
    Whole.downS (Whole.codesS H A) (Whole.scaleS A) D s =
      ReferenceIdeal.Gen.k0_pay2 (refScales H) H D
        (refScales H) s := by
  rw [codes_eq H A hA, scale_eq H A hA]
  generalize refScales H = S
  funext y
  obtain ⟨r, f, rfl⟩ : ∃ (r : Fin 4096) (f : Fin 8192), y = ix2 r f := ⟨_, _, eq_ix2 y⟩
  rw [ReferenceIdeal.Whole.pay2_apply]
  rfl
end rows

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals the kernel and the reference end with the same product, codes and scales, at every argument. -/
theorem values : Cert.algebraic_KernelIdeal_ReferenceIdeal := by
  intro m ρ m' ρ' _ hargs
  refine ⟨fun c => KernelIdeal.Whole.B6 m ρ c (Proc.devRef .tc KernelIdeal.main_v7), fun c => KernelIdeal.Whole.B6 m ρ c (Proc.devRef .tc KernelIdeal.main_v8),
    fun c => KernelIdeal.Whole.B6 m ρ c (Proc.devRef .tc KernelIdeal.main_v9), ?_, ?_⟩
  · refine (θ_run KernelIdeal.defs _ _).mono (fun _ h c => ?_) (KernelIdeal.Whole.run_all m ρ)
    exact ⟨h.1 c _ (KernelIdeal.Whole.mem_uc KernelIdeal.main_v7 (by decide)), h.1 c _ (KernelIdeal.Whole.mem_uc KernelIdeal.main_v8 (by decide)),
      h.1 c _ (KernelIdeal.Whole.mem_uc KernelIdeal.main_v9 (by decide)),
      (h.1 c _ (KernelIdeal.Whole.mem_uc KernelIdeal.main_arg0 (by decide))).trans (KernelIdeal.Whole.B6_args m ρ c KernelIdeal.main_arg0 (by decide)),
      (h.1 c _ (KernelIdeal.Whole.mem_uc KernelIdeal.main_arg1 (by decide))).trans (KernelIdeal.Whole.B6_args m ρ c KernelIdeal.main_arg1 (by decide)),
      (h.1 c _ (KernelIdeal.Whole.mem_uc KernelIdeal.main_arg2 (by decide))).trans (KernelIdeal.Whole.B6_args m ρ c KernelIdeal.main_arg2 (by decide)),
      (h.1 c _ (KernelIdeal.Whole.mem_uc KernelIdeal.main_arg3 (by decide))).trans (KernelIdeal.Whole.B6_args m ρ c KernelIdeal.main_arg3 (by decide))⟩
  · refine (θ_run ReferenceIdeal.defs _ _).mono (fun _ h c => ?_) (ReferenceIdeal.Whole.run m' ρ')
    obtain ⟨a0, a1, a2, a3⟩ := hargs c
    have hx : ReferenceIdeal.Whole.ax m' c = KernelIdeal.Whole.kx m c := a0
    have hw : ReferenceIdeal.Whole.aw m' c = KernelIdeal.Whole.kw m c := a1
    have hd : ReferenceIdeal.Whole.ad m' c = KernelIdeal.Whole.kd m c := a2
    have hs : ReferenceIdeal.Whole.aws m' c = KernelIdeal.Whole.ks m c := a3
    have hA := fun r => KernelIdeal.Whole.ka_max m ρ c r
    refine ⟨(h c).1.trans ?_, (h c).2.1.trans ?_, (h c).2.2.1.trans ?_, (h c).2.2.2⟩
    · refine Eq.trans ?_ (KernelIdeal.Whole.B6_y m ρ c).symm
      rw [ReferenceIdeal.Whole.arr4, hx, hw, hd, hs, ← Equation.hid_eq]
      exact congrArg (shapeCast ReferenceIdeal.S1x4096x8192 · ReferenceIdeal.Gen.shapeCasts_S4096x8192_S1x4096x8192) (Equation.down_eq _ _ hA _ _).symm
    · refine Eq.trans ?_ (KernelIdeal.Whole.B6_codes m ρ c).symm
      rw [ReferenceIdeal.Whole.arr5, hx, hw, ← Equation.hid_eq]
      exact congrArg (shapeCast ReferenceIdeal.S1x4096x16384 · ReferenceIdeal.Gen.shapeCasts_S4096x16384_S1x4096x16384) (Equation.codes_eq _ _ hA).symm
    · refine Eq.trans ?_ (KernelIdeal.Whole.B6_scale m ρ c).symm
      rw [hx, hw, ← Equation.hid_eq]
      exact congrArg (shapeCast ReferenceIdeal.S1x4096x1 · ReferenceIdeal.Gen.shapeCasts_S4096x1_S1x4096x1) (Equation.scale_eq _ _ hA).symm

/-- Each program terminates without fault and leaves its arguments unchanged; the ideal program is the kernel over the extended reals; and
    kernel and reference compute the same three results there. -/
theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ, fun m ρ _ => Cert.ReferenceIdeal.Gen.frame m ρ,
  trivial, values⟩

end Cert.Proof

end
